-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded_KernelIdeal [hPre_bounded_KernelIdeal : Cert.Pre_bounded_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_bounded_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded_ReferenceIdeal [hPre_bounded_ReferenceIdeal : Cert.Pre_bounded_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_bounded_KernelIdeal [hKernelIdeal : Cert.KernelIdeal.Facts] [hPre_bounded_KernelIdeal : Cert.Pre_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_bounded_ReferenceIdeal [hReferenceIdeal : Cert.ReferenceIdeal.Facts] [hPre_bounded_ReferenceIdeal : Cert.Pre_bounded_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_bounded_KernelIdeal [hKernelIdeal : Cert.KernelIdeal.Facts] [hReferenceIdeal : Cert.ReferenceIdeal.Facts] [hPre_bounded_KernelIdeal : Cert.Pre_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_bounded_KernelIdeal : Cert.Pre_bounded_KernelIdeal.Facts) (hPre_bounded_ReferenceIdeal : Cert.Pre_bounded_ReferenceIdeal.Facts),
    quiescent_Kernel (hKernel := hKernel)
    ∧ quiescent_KernelIdeal (hKernelIdeal := hKernelIdeal)
    ∧ quiescent_KernelIdeal_pre_bounded_KernelIdeal (hKernelIdeal := hKernelIdeal) (hPre_bounded_KernelIdeal := hPre_bounded_KernelIdeal)
    ∧ quiescent_ReferenceIdeal (hReferenceIdeal := hReferenceIdeal)
    ∧ quiescent_ReferenceIdeal_pre_bounded_ReferenceIdeal (hReferenceIdeal := hReferenceIdeal) (hPre_bounded_ReferenceIdeal := hPre_bounded_ReferenceIdeal)
    ∧ preserves_Kernel_KernelIdeal
    ∧ algebraic_KernelIdeal_ReferenceIdeal_pre_bounded_KernelIdeal (hKernelIdeal := hKernelIdeal) (hReferenceIdeal := hReferenceIdeal) (hPre_bounded_KernelIdeal := hPre_bounded_KernelIdeal)
-- ==== Pre_bounded_KernelIdeal.lean ====
abbrev S256x4096 : Shape := ⟨2, ![256, 4096]⟩
abbrev S4096x2048 : Shape := ⟨2, ![4096, 2048]⟩
abbrev S256x2048 : Shape := ⟨2, ![256, 2048]⟩
abbrev S_ : Shape := ⟨0, ![]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel
  dot_S256x4096_S4096x2048_S256x2048_1_0_0_1_n_n_wf : DotDims.WF S256x4096 S4096x2048 S256x2048 [1] [0] [0] [1] [] []

variable [Facts]

def dot_S256x4096_S4096x2048_S256x2048_1_0_0_1_n_n : DotDims S256x4096 S4096x2048 S256x2048 where
  lhsContracting := [1]
  rhsContracting := [0]
  lhsNonContracting := [0]
  rhsNonContracting := [1]
  lhsBatch := []
  rhsBatch := []
  wf := dot_S256x4096_S4096x2048_S256x2048_1_0_0_1_n_n_wf
def fn {F : FTy → Type} [FloatOps F] (main_arg0 : FVec F S256x4096 .f32) (main_arg1 : FVec F S4096x2048 .f32) : IVec S_ 1 :=
  let main_v0 : FVec F S256x2048 .f32 := (fun l r => Host.dotGeneral dot_S256x4096_S4096x2048_S256x2048_1_0_0_1_n_n none l r) main_arg0 main_arg1
  let main_v1 : FVec F S256x2048 .f32 := Host.absf main_v0
  let main_cst : FVec F S_ .f32 := constant S_ .f32 0x42700000#32
  let main_v2 : FVec F S256x2048 .f32 := broadcastInDim S256x2048 ![] bcast_S_S256x2048 main_cst
  let main_v3 : IVec S256x2048 1 := cmpf .ole main_v1 main_v2
  let main_c : IVec S_ 1 := constantI S_ 1 1#1
  let main_v4 : IVec S_ 1 := (fun x v => Host.reduce IntOp.andi x v reducesTo_S256x2048_S_d0_1 h_S_) main_v3 main_c
  main_v4
-- ==== Pre_bounded_ReferenceIdeal.lean ====
abbrev S4096x4096 : Shape := ⟨2, ![4096, 4096]⟩
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .f32) (main_arg1 : FVec F S4096x2048 .f32) : IVec S_ 1 :=
  let main_v0 : FVec F S4096x2048 .f32 := (fun l r => Host.dotGeneral dot_S4096x4096_S4096x2048_S4096x2048_1_0_0_1_n_n none l r) main_arg0 main_arg1
  let main_v1 : FVec F S4096x2048 .f32 := Host.absf main_v0
  let main_cst : FVec F S_ .f32 := constant S_ .f32 0x42700000#32
  let main_v2 : FVec F S4096x2048 .f32 := broadcastInDim S4096x2048 ![] bcast_S_S4096x2048 main_cst
  let main_v3 : IVec S4096x2048 1 := cmpf .ole main_v1 main_v2
  let main_c : IVec S_ 1 := constantI S_ 1 1#1
  let main_v4 : IVec S_ 1 := (fun x v => Host.reduce IntOp.andi x v reducesTo_S4096x2048_S_d0_1 h_S_) main_v3 main_c
  main_v4
-- ==== Kernel.lean ====
abbrev S256x4096 : Shape := ⟨2, ![256, 4096]⟩
abbrev S4096x2048 : Shape := ⟨2, ![4096, 2048]⟩
abbrev S4096x128 : Shape := ⟨2, ![4096, 128]⟩
abbrev S8x4096x256 : Shape := ⟨3, ![8, 4096, 256]⟩
abbrev S256x256 : Shape := ⟨2, ![256, 256]⟩
abbrev S8x256x256 : Shape := ⟨3, ![8, 256, 256]⟩
abbrev S16x256x128 : Shape := ⟨3, ![16, 256, 128]⟩
abbrev S8 : Shape := ⟨1, ![8]⟩
abbrev S16 : Shape := ⟨1, ![16]⟩
abbrev S1 : Shape := ⟨1, ![1]⟩
abbrev S_ : Shape := ⟨0, ![]⟩
abbrev S1x4096x256 : Shape := ⟨3, ![1, 4096, 256]⟩
abbrev S4096x256 : Shape := ⟨2, ![4096, 256]⟩
abbrev S1x256x256 : Shape := ⟨3, ![1, 256, 256]⟩
abbrev S1x256x128 : Shape := ⟨3, ![1, 256, 128]⟩
abbrev S256x128 : Shape := ⟨2, ![256, 128]⟩

abbrev nBuf : Space → Nat
  | .hbm => 3
  | .vmem => 6
  | .smem => 0
  | _ => 0

abbrev bufTy : (tb : Table) → Fin (tcTables nBuf tb) → BufTy
  | .hbm, ⟨0, _⟩ => ⟨S256x4096, .f32⟩
  | .hbm, ⟨1, _⟩ => ⟨S4096x2048, .f32⟩
  | .hbm, ⟨2, _⟩ => ⟨S4096x128, .f32⟩
  | .local _ .vmem, ⟨0, _⟩ => ⟨S256x4096, .f32⟩
  | .local _ .vmem, ⟨1, _⟩ => ⟨S4096x128, .f32⟩
  | .local _ .vmem, ⟨2, _⟩ => ⟨S8x4096x256, .f32⟩
  | .local _ .vmem, ⟨3, _⟩ => ⟨S256x256, .f32⟩
  | .local _ .vmem, ⟨4, _⟩ => ⟨S8x256x256, .bf16⟩
  | .local _ .vmem, ⟨5, _⟩ => ⟨S16x256x128, .bf16⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_off1 (d0 : Dev nD) (c1_i32_18 : BitVec 32) (c0_i32_20 : BitVec 32) : Fin 2 → Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v48 : BitVec 32 := Scalar.addi v19 c1_i32_18
  let c4_i32_19 : BitVec 32 := 4#32
  let v49 : BitVec 32 := Scalar.remsi v48 c4_i32_19
  let c512_i32 : BitVec 32 := 512#32
  let v51 : BitVec 32 := Scalar.muli v49 c512_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v50 : BitVec 32 := Scalar.xori v37 c0_i32_20
  let c256_i32 : BitVec 32 := 256#32
  let v52 : BitVec 32 := Scalar.muli v50 c256_i32
  let v53 : BitVec 32 := Scalar.addi v51 v52
  ![0, v53.toNat]
def k0_dev1 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_84 : BitVec 32 := 1#32
  let v129 : BitVec 32 := Scalar.addi v2 c1_i32_84
  let c16_i32_85 : BitVec 32 := 16#32
  let v130 : BitVec 32 := Scalar.remsi v129 c16_i32_85
  let c1_i32_87 : BitVec 32 := 1#32
  let v131 : BitVec 32 := Scalar.muli v130 c1_i32_87
  let v132 : BitVec 32 := Scalar.addi c0_i32_88 v131
  v132.toNat
def k0_dev2 (d0 : Dev nD) : Nat :=
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_89 : BitVec 32 := 2#32
  let v133 : BitVec 32 := Scalar.addi v2 c2_i32_89
  let c16_i32_90 : BitVec 32 := 16#32
  let v134 : BitVec 32 := Scalar.remsi v133 c16_i32_90
  let c1_i32_92 : BitVec 32 := 1#32
  let v135 : BitVec 32 := Scalar.muli v134 c1_i32_92
  let v136 : BitVec 32 := Scalar.addi c0_i32_93 v135
  v136.toNat
def k0_dev3 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_94 : BitVec 32 := 3#32
  let v137 : BitVec 32 := Scalar.addi v2 c3_i32_94
  let c16_i32_95 : BitVec 32 := 16#32
  let v138 : BitVec 32 := Scalar.remsi v137 c16_i32_95
  let c1_i32_97 : BitVec 32 := 1#32
  let v139 : BitVec 32 := Scalar.muli v138 c1_i32_97
  let v140 : BitVec 32 := Scalar.addi c0_i32_98 v139
  v140.toNat
def k0_dev4 (d0 : Dev nD) : Nat :=
  let c0_i32_103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_99 : BitVec 32 := 4#32
  let v141 : BitVec 32 := Scalar.addi v2 c4_i32_99
  let c16_i32_100 : BitVec 32 := 16#32
  let v142 : BitVec 32 := Scalar.remsi v141 c16_i32_100
  let c1_i32_102 : BitVec 32 := 1#32
  let v143 : BitVec 32 := Scalar.muli v142 c1_i32_102
  let v144 : BitVec 32 := Scalar.addi c0_i32_103 v143
  v144.toNat
def k0_dev5 (d0 : Dev nD) : Nat :=
  let c0_i32_108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_104 : BitVec 32 := 5#32
  let v145 : BitVec 32 := Scalar.addi v2 c5_i32_104
  let c16_i32_105 : BitVec 32 := 16#32
  let v146 : BitVec 32 := Scalar.remsi v145 c16_i32_105
  let c1_i32_107 : BitVec 32 := 1#32
  let v147 : BitVec 32 := Scalar.muli v146 c1_i32_107
  let v148 : BitVec 32 := Scalar.addi c0_i32_108 v147
  v148.toNat
def k0_dev6 (d0 : Dev nD) : Nat :=
  let c0_i32_113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_109 : BitVec 32 := 6#32
  let v149 : BitVec 32 := Scalar.addi v2 c6_i32_109
  let c16_i32_110 : BitVec 32 := 16#32
  let v150 : BitVec 32 := Scalar.remsi v149 c16_i32_110
  let c1_i32_112 : BitVec 32 := 1#32
  let v151 : BitVec 32 := Scalar.muli v150 c1_i32_112
  let v152 : BitVec 32 := Scalar.addi c0_i32_113 v151
  v152.toNat
def k0_dev7 (d0 : Dev nD) : Nat :=
  let c0_i32_118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_114 : BitVec 32 := 7#32
  let v153 : BitVec 32 := Scalar.addi v2 c7_i32_114
  let c16_i32_115 : BitVec 32 := 16#32
  let v154 : BitVec 32 := Scalar.remsi v153 c16_i32_115
  let c1_i32_117 : BitVec 32 := 1#32
  let v155 : BitVec 32 := Scalar.muli v154 c1_i32_117
  let v156 : BitVec 32 := Scalar.addi c0_i32_118 v155
  v156.toNat
def k0_dev8 (d0 : Dev nD) : Nat :=
  let c0_i32_122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v157 : BitVec 32 := Scalar.addi v2 c8_i32
  let c16_i32_119 : BitVec 32 := 16#32
  let v158 : BitVec 32 := Scalar.remsi v157 c16_i32_119
  let c1_i32_121 : BitVec 32 := 1#32
  let v159 : BitVec 32 := Scalar.muli v158 c1_i32_121
  let v160 : BitVec 32 := Scalar.addi c0_i32_122 v159
  v160.toNat
def k0_dev9 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v161 : BitVec 32 := Scalar.addi v2 c9_i32
  let c16_i32_123 : BitVec 32 := 16#32
  let v162 : BitVec 32 := Scalar.remsi v161 c16_i32_123
  let c1_i32_125 : BitVec 32 := 1#32
  let v163 : BitVec 32 := Scalar.muli v162 c1_i32_125
  let v164 : BitVec 32 := Scalar.addi c0_i32_126 v163
  v164.toNat
def k0_dev10 (d0 : Dev nD) : Nat :=
  let c0_i32_130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v165 : BitVec 32 := Scalar.addi v2 c10_i32
  let c16_i32_127 : BitVec 32 := 16#32
  let v166 : BitVec 32 := Scalar.remsi v165 c16_i32_127
  let c1_i32_129 : BitVec 32 := 1#32
  let v167 : BitVec 32 := Scalar.muli v166 c1_i32_129
  let v168 : BitVec 32 := Scalar.addi c0_i32_130 v167
  v168.toNat
def k0_dev11 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v169 : BitVec 32 := Scalar.addi v2 c11_i32
  let c16_i32_131 : BitVec 32 := 16#32
  let v170 : BitVec 32 := Scalar.remsi v169 c16_i32_131
  let c1_i32_133 : BitVec 32 := 1#32
  let v171 : BitVec 32 := Scalar.muli v170 c1_i32_133
  let v172 : BitVec 32 := Scalar.addi c0_i32_134 v171
  v172.toNat
def k0_dev12 (d0 : Dev nD) : Nat :=
  let c0_i32_138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v173 : BitVec 32 := Scalar.addi v2 c12_i32
  let c16_i32_135 : BitVec 32 := 16#32
  let v174 : BitVec 32 := Scalar.remsi v173 c16_i32_135
  let c1_i32_137 : BitVec 32 := 1#32
  let v175 : BitVec 32 := Scalar.muli v174 c1_i32_137
  let v176 : BitVec 32 := Scalar.addi c0_i32_138 v175
  v176.toNat
def k0_dev13 (d0 : Dev nD) : Nat :=
  let c0_i32_142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v177 : BitVec 32 := Scalar.addi v2 c13_i32
  let c16_i32_139 : BitVec 32 := 16#32
  let v178 : BitVec 32 := Scalar.remsi v177 c16_i32_139
  let c1_i32_141 : BitVec 32 := 1#32
  let v179 : BitVec 32 := Scalar.muli v178 c1_i32_141
  let v180 : BitVec 32 := Scalar.addi c0_i32_142 v179
  v180.toNat
def k0_dev14 (d0 : Dev nD) : Nat :=
  let c0_i32_146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v181 : BitVec 32 := Scalar.addi v2 c14_i32
  let c16_i32_143 : BitVec 32 := 16#32
  let v182 : BitVec 32 := Scalar.remsi v181 c16_i32_143
  let c1_i32_145 : BitVec 32 := 1#32
  let v183 : BitVec 32 := Scalar.muli v182 c1_i32_145
  let v184 : BitVec 32 := Scalar.addi c0_i32_146 v183
  v184.toNat
def k0_dev15 (d0 : Dev nD) : Nat :=
  let c0_i32_150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v185 : BitVec 32 := Scalar.addi v2 c15_i32
  let c16_i32_147 : BitVec 32 := 16#32
  let v186 : BitVec 32 := Scalar.remsi v185 c16_i32_147
  let c1_i32_149 : BitVec 32 := 1#32
  let v187 : BitVec 32 := Scalar.muli v186 c1_i32_149
  let v188 : BitVec 32 := Scalar.addi c0_i32_150 v187
  v188.toNat
def k0_off2 (d0 : Dev nD) (c0_i32_166 : BitVec 32) : Fin 2 → Nat :=
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v20 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v207 : BitVec 32 := Scalar.xori v47 c0_i32_166
  let c128_i32 : BitVec 32 := 128#32
  let v211 : BitVec 32 := Scalar.muli v207 c128_i32
  ![0, v211.toNat]
def k0_off3 (d0 : Dev nD) (c0_i32_166 : BitVec 32) : Fin 3 → Nat :=
  let c0_i32_169 : BitVec 32 := 0#32
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v20 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v207 : BitVec 32 := Scalar.xori v47 c0_i32_166
  let c128_i32 : BitVec 32 := 128#32
  let v211 : BitVec 32 := Scalar.muli v207 c128_i32
  ![0, 0, v211.toNat]
def k0_dev16 (d0 : Dev nD) : Nat :=
  let c0_i32_174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_152 : BitVec 32 := 1#32
  let v191 : BitVec 32 := Scalar.addi v19 c1_i32_152
  let c4_i32_153 : BitVec 32 := 4#32
  let v192 : BitVec 32 := Scalar.remsi v191 c4_i32_153
  let c4_i32_168 : BitVec 32 := 4#32
  let v209 : BitVec 32 := Scalar.muli v192 c4_i32_168
  let c4_i32_5 : BitVec 32 := 4#32
  let v20 : BitVec 32 := Scalar.remsi v2 c4_i32_5
  let c0_i32_167 : BitVec 32 := 0#32
  let v208 : BitVec 32 := Scalar.xori v20 c0_i32_167
  let v210 : BitVec 32 := Scalar.addi v209 v208
  let c1_i32_173 : BitVec 32 := 1#32
  let v212 : BitVec 32 := Scalar.muli v210 c1_i32_173
  let v213 : BitVec 32 := Scalar.addi c0_i32_174 v212
  v213.toNat
def k0_dev17 (d0 : Dev nD) : Nat :=
  let c0_i32_189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_152 : BitVec 32 := 1#32
  let v191 : BitVec 32 := Scalar.addi v19 c1_i32_152
  let c4_i32_153 : BitVec 32 := 4#32
  let v192 : BitVec 32 := Scalar.remsi v191 c4_i32_153
  let c4_i32_182 : BitVec 32 := 4#32
  let v225 : BitVec 32 := Scalar.muli v192 c4_i32_182
  let c4_i32_5 : BitVec 32 := 4#32
  let v20 : BitVec 32 := Scalar.remsi v2 c4_i32_5
  let c1_i32_181 : BitVec 32 := 1#32
  let v224 : BitVec 32 := Scalar.xori v20 c1_i32_181
  let v226 : BitVec 32 := Scalar.addi v225 v224
  let c1_i32_188 : BitVec 32 := 1#32
  let v228 : BitVec 32 := Scalar.muli v226 c1_i32_188
  let v229 : BitVec 32 := Scalar.addi c0_i32_189 v228
  v229.toNat
def k0_off4 (d0 : Dev nD) (c0_i32_206 : BitVec 32) : Fin 3 → Nat :=
  let c1_i32_210 : BitVec 32 := 1#32
  let c0_i32_218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v20 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v253 : BitVec 32 := Scalar.xori v47 c0_i32_206
  let c128_i32_209 : BitVec 32 := 128#32
  let v257 : BitVec 32 := Scalar.muli v253 c128_i32_209
  ![1, 0, v257.toNat]
def k0_dev18 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_152 : BitVec 32 := 1#32
  let v191 : BitVec 32 := Scalar.addi v19 c1_i32_152
  let c4_i32_153 : BitVec 32 := 4#32
  let v192 : BitVec 32 := Scalar.remsi v191 c4_i32_153
  let c4_i32_208 : BitVec 32 := 4#32
  let v255 : BitVec 32 := Scalar.muli v192 c4_i32_208
  let c4_i32_5 : BitVec 32 := 4#32
  let v20 : BitVec 32 := Scalar.remsi v2 c4_i32_5
  let c2_i32_207 : BitVec 32 := 2#32
  let v254 : BitVec 32 := Scalar.xori v20 c2_i32_207
  let v256 : BitVec 32 := Scalar.addi v255 v254
  let c1_i32_214 : BitVec 32 := 1#32
  let v258 : BitVec 32 := Scalar.muli v256 c1_i32_214
  let v259 : BitVec 32 := Scalar.addi c0_i32_215 v258
  v259.toNat
def k0_dev19 (d0 : Dev nD) : Nat :=
  let c0_i32_230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_152 : BitVec 32 := 1#32
  let v191 : BitVec 32 := Scalar.addi v19 c1_i32_152
  let c4_i32_153 : BitVec 32 := 4#32
  let v192 : BitVec 32 := Scalar.remsi v191 c4_i32_153
  let c4_i32_223 : BitVec 32 := 4#32
  let v271 : BitVec 32 := Scalar.muli v192 c4_i32_223
  let c4_i32_5 : BitVec 32 := 4#32
  let v20 : BitVec 32 := Scalar.remsi v2 c4_i32_5
  let c3_i32_222 : BitVec 32 := 3#32
  let v270 : BitVec 32 := Scalar.xori v20 c3_i32_222
  let v272 : BitVec 32 := Scalar.addi v271 v270
  let c1_i32_229 : BitVec 32 := 1#32
  let v274 : BitVec 32 := Scalar.muli v272 c1_i32_229
  let v275 : BitVec 32 := Scalar.addi c0_i32_230 v274
  v275.toNat
def k0_off5 (d0 : Dev nD) (c0_i32_249 : BitVec 32) : Fin 3 → Nat :=
  let c2_i32_253 : BitVec 32 := 2#32
  let c0_i32_261 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v20 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v301 : BitVec 32 := Scalar.xori v47 c0_i32_249
  let c128_i32_252 : BitVec 32 := 128#32
  let v305 : BitVec 32 := Scalar.muli v301 c128_i32_252
  ![2, 0, v305.toNat]
def k0_dev20 (d0 : Dev nD) : Nat :=
  let c0_i32_258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_236 : BitVec 32 := 2#32
  let v285 : BitVec 32 := Scalar.addi v19 c2_i32_236
  let c4_i32_237 : BitVec 32 := 4#32
  let v286 : BitVec 32 := Scalar.remsi v285 c4_i32_237
  let c4_i32_251 : BitVec 32 := 4#32
  let v303 : BitVec 32 := Scalar.muli v286 c4_i32_251
  let c4_i32_5 : BitVec 32 := 4#32
  let v20 : BitVec 32 := Scalar.remsi v2 c4_i32_5
  let c0_i32_250 : BitVec 32 := 0#32
  let v302 : BitVec 32 := Scalar.xori v20 c0_i32_250
  let v304 : BitVec 32 := Scalar.addi v303 v302
  let c1_i32_257 : BitVec 32 := 1#32
  let v306 : BitVec 32 := Scalar.muli v304 c1_i32_257
  let v307 : BitVec 32 := Scalar.addi c0_i32_258 v306
  v307.toNat
def k0_dev21 (d0 : Dev nD) : Nat :=
  let c0_i32_273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_236 : BitVec 32 := 2#32
  let v285 : BitVec 32 := Scalar.addi v19 c2_i32_236
  let c4_i32_237 : BitVec 32 := 4#32
  let v286 : BitVec 32 := Scalar.remsi v285 c4_i32_237
  let c4_i32_266 : BitVec 32 := 4#32
  let v319 : BitVec 32 := Scalar.muli v286 c4_i32_266
  let c4_i32_5 : BitVec 32 := 4#32
  let v20 : BitVec 32 := Scalar.remsi v2 c4_i32_5
  let c1_i32_265 : BitVec 32 := 1#32
  let v318 : BitVec 32 := Scalar.xori v20 c1_i32_265
  let v320 : BitVec 32 := Scalar.addi v319 v318
  let c1_i32_272 : BitVec 32 := 1#32
  let v322 : BitVec 32 := Scalar.muli v320 c1_i32_272
  let v323 : BitVec 32 := Scalar.addi c0_i32_273 v322
  v323.toNat
def k0_off6 (d0 : Dev nD) (c0_i32_290 : BitVec 32) : Fin 3 → Nat :=
  let c3_i32_294 : BitVec 32 := 3#32
  let c0_i32_302 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v20 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v347 : BitVec 32 := Scalar.xori v47 c0_i32_290
  let c128_i32_293 : BitVec 32 := 128#32
  let v351 : BitVec 32 := Scalar.muli v347 c128_i32_293
  ![3, 0, v351.toNat]
def k0_dev22 (d0 : Dev nD) : Nat :=
  let c0_i32_299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_236 : BitVec 32 := 2#32
  let v285 : BitVec 32 := Scalar.addi v19 c2_i32_236
  let c4_i32_237 : BitVec 32 := 4#32
  let v286 : BitVec 32 := Scalar.remsi v285 c4_i32_237
  let c4_i32_292 : BitVec 32 := 4#32
  let v349 : BitVec 32 := Scalar.muli v286 c4_i32_292
  let c4_i32_5 : BitVec 32 := 4#32
  let v20 : BitVec 32 := Scalar.remsi v2 c4_i32_5
  let c2_i32_291 : BitVec 32 := 2#32
  let v348 : BitVec 32 := Scalar.xori v20 c2_i32_291
  let v350 : BitVec 32 := Scalar.addi v349 v348
  let c1_i32_298 : BitVec 32 := 1#32
  let v352 : BitVec 32 := Scalar.muli v350 c1_i32_298
  let v353 : BitVec 32 := Scalar.addi c0_i32_299 v352
  v353.toNat
def k0_dev23 (d0 : Dev nD) : Nat :=
  let c0_i32_314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_236 : BitVec 32 := 2#32
  let v285 : BitVec 32 := Scalar.addi v19 c2_i32_236
  let c4_i32_237 : BitVec 32 := 4#32
  let v286 : BitVec 32 := Scalar.remsi v285 c4_i32_237
  let c4_i32_307 : BitVec 32 := 4#32
  let v365 : BitVec 32 := Scalar.muli v286 c4_i32_307
  let c4_i32_5 : BitVec 32 := 4#32
  let v20 : BitVec 32 := Scalar.remsi v2 c4_i32_5
  let c3_i32_306 : BitVec 32 := 3#32
  let v364 : BitVec 32 := Scalar.xori v20 c3_i32_306
  let v366 : BitVec 32 := Scalar.addi v365 v364
  let c1_i32_313 : BitVec 32 := 1#32
  let v368 : BitVec 32 := Scalar.muli v366 c1_i32_313
  let v369 : BitVec 32 := Scalar.addi c0_i32_314 v368
  v369.toNat
def k0_off7 (d0 : Dev nD) (c0_i32_333 : BitVec 32) : Fin 3 → Nat :=
  let c4_i32_337 : BitVec 32 := 4#32
  let c0_i32_345 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v20 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v395 : BitVec 32 := Scalar.xori v47 c0_i32_333
  let c128_i32_336 : BitVec 32 := 128#32
  let v399 : BitVec 32 := Scalar.muli v395 c128_i32_336
  ![4, 0, v399.toNat]
def k0_dev24 (d0 : Dev nD) : Nat :=
  let c0_i32_342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_320 : BitVec 32 := 3#32
  let v379 : BitVec 32 := Scalar.addi v19 c3_i32_320
  let c4_i32_321 : BitVec 32 := 4#32
  let v380 : BitVec 32 := Scalar.remsi v379 c4_i32_321
  let c4_i32_335 : BitVec 32 := 4#32
  let v397 : BitVec 32 := Scalar.muli v380 c4_i32_335
  let c4_i32_5 : BitVec 32 := 4#32
  let v20 : BitVec 32 := Scalar.remsi v2 c4_i32_5
  let c0_i32_334 : BitVec 32 := 0#32
  let v396 : BitVec 32 := Scalar.xori v20 c0_i32_334
  let v398 : BitVec 32 := Scalar.addi v397 v396
  let c1_i32_341 : BitVec 32 := 1#32
  let v400 : BitVec 32 := Scalar.muli v398 c1_i32_341
  let v401 : BitVec 32 := Scalar.addi c0_i32_342 v400
  v401.toNat
def k0_dev25 (d0 : Dev nD) : Nat :=
  let c0_i32_357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_320 : BitVec 32 := 3#32
  let v379 : BitVec 32 := Scalar.addi v19 c3_i32_320
  let c4_i32_321 : BitVec 32 := 4#32
  let v380 : BitVec 32 := Scalar.remsi v379 c4_i32_321
  let c4_i32_350 : BitVec 32 := 4#32
  let v413 : BitVec 32 := Scalar.muli v380 c4_i32_350
  let c4_i32_5 : BitVec 32 := 4#32
  let v20 : BitVec 32 := Scalar.remsi v2 c4_i32_5
  let c1_i32_349 : BitVec 32 := 1#32
  let v412 : BitVec 32 := Scalar.xori v20 c1_i32_349
  let v414 : BitVec 32 := Scalar.addi v413 v412
  let c1_i32_356 : BitVec 32 := 1#32
  let v416 : BitVec 32 := Scalar.muli v414 c1_i32_356
  let v417 : BitVec 32 := Scalar.addi c0_i32_357 v416
  v417.toNat
def k0_off8 (d0 : Dev nD) (c0_i32_374 : BitVec 32) : Fin 3 → Nat :=
  let c5_i32_378 : BitVec 32 := 5#32
  let c0_i32_386 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v20 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v441 : BitVec 32 := Scalar.xori v47 c0_i32_374
  let c128_i32_377 : BitVec 32 := 128#32
  let v445 : BitVec 32 := Scalar.muli v441 c128_i32_377
  ![5, 0, v445.toNat]
def k0_dev26 (d0 : Dev nD) : Nat :=
  let c0_i32_383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_320 : BitVec 32 := 3#32
  let v379 : BitVec 32 := Scalar.addi v19 c3_i32_320
  let c4_i32_321 : BitVec 32 := 4#32
  let v380 : BitVec 32 := Scalar.remsi v379 c4_i32_321
  let c4_i32_376 : BitVec 32 := 4#32
  let v443 : BitVec 32 := Scalar.muli v380 c4_i32_376
  let c4_i32_5 : BitVec 32 := 4#32
  let v20 : BitVec 32 := Scalar.remsi v2 c4_i32_5
  let c2_i32_375 : BitVec 32 := 2#32
  let v442 : BitVec 32 := Scalar.xori v20 c2_i32_375
  let v444 : BitVec 32 := Scalar.addi v443 v442
  let c1_i32_382 : BitVec 32 := 1#32
  let v446 : BitVec 32 := Scalar.muli v444 c1_i32_382
  let v447 : BitVec 32 := Scalar.addi c0_i32_383 v446
  v447.toNat
def k0_dev27 (d0 : Dev nD) : Nat :=
  let c0_i32_398 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_320 : BitVec 32 := 3#32
  let v379 : BitVec 32 := Scalar.addi v19 c3_i32_320
  let c4_i32_321 : BitVec 32 := 4#32
  let v380 : BitVec 32 := Scalar.remsi v379 c4_i32_321
  let c4_i32_391 : BitVec 32 := 4#32
  let v459 : BitVec 32 := Scalar.muli v380 c4_i32_391
  let c4_i32_5 : BitVec 32 := 4#32
  let v20 : BitVec 32 := Scalar.remsi v2 c4_i32_5
  let c3_i32_390 : BitVec 32 := 3#32
  let v458 : BitVec 32 := Scalar.xori v20 c3_i32_390
  let v460 : BitVec 32 := Scalar.addi v459 v458
  let c1_i32_397 : BitVec 32 := 1#32
  let v462 : BitVec 32 := Scalar.muli v460 c1_i32_397
  let v463 : BitVec 32 := Scalar.addi c0_i32_398 v462
  v463.toNat
def k0_off9 (d0 : Dev nD) : Fin 2 → Nat :=
  let c0_421 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v20 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let c0_i32_419 : BitVec 32 := 0#32
  let v492 : BitVec 32 := Scalar.xori v47 c0_i32_419
  let c128_i32_420 : BitVec 32 := 128#32
  let v493 : BitVec 32 := Scalar.muli v492 c128_i32_420
  let v494 : Index := Scalar.indexCast v493
  ![0, v494.toNat]
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_422 : BitVec 32 := 256#32
  let v496 : BitVec 32 := Scalar.muli v2 c256_i32_422
  let v497 : Index := Scalar.indexCast v496
  let c0_423 : Index := 0#32
  ![v497.toNat, 0]
def k0_off11 (d0 : Dev nD) : Fin 3 → Nat :=
  let c6_i32_428 : BitVec 32 := 6#32
  let c0_i32_436 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v20 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let c1_i32_424 : BitVec 32 := 1#32
  let v499 : BitVec 32 := Scalar.xori v47 c1_i32_424
  let c128_i32_427 : BitVec 32 := 128#32
  let v503 : BitVec 32 := Scalar.muli v499 c128_i32_427
  ![6, 0, v503.toNat]
def k0_dev28 (d0 : Dev nD) : Nat :=
  let c0_i32_433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_404 : BitVec 32 := 0#32
  let v473 : BitVec 32 := Scalar.addi v19 c0_i32_404
  let c4_i32_405 : BitVec 32 := 4#32
  let v474 : BitVec 32 := Scalar.remsi v473 c4_i32_405
  let c4_i32_426 : BitVec 32 := 4#32
  let v501 : BitVec 32 := Scalar.muli v474 c4_i32_426
  let c4_i32_5 : BitVec 32 := 4#32
  let v20 : BitVec 32 := Scalar.remsi v2 c4_i32_5
  let c1_i32_425 : BitVec 32 := 1#32
  let v500 : BitVec 32 := Scalar.xori v20 c1_i32_425
  let v502 : BitVec 32 := Scalar.addi v501 v500
  let c1_i32_432 : BitVec 32 := 1#32
  let v504 : BitVec 32 := Scalar.muli v502 c1_i32_432
  let v505 : BitVec 32 := Scalar.addi c0_i32_433 v504
  v505.toNat
def k0_off12 (d0 : Dev nD) (c0_i32_450 : BitVec 32) : Fin 3 → Nat :=
  let c7_i32_454 : BitVec 32 := 7#32
  let c0_i32_462 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v20 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v529 : BitVec 32 := Scalar.xori v47 c0_i32_450
  let c128_i32_453 : BitVec 32 := 128#32
  let v533 : BitVec 32 := Scalar.muli v529 c128_i32_453
  ![7, 0, v533.toNat]
def k0_dev29 (d0 : Dev nD) : Nat :=
  let c0_i32_459 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_404 : BitVec 32 := 0#32
  let v473 : BitVec 32 := Scalar.addi v19 c0_i32_404
  let c4_i32_405 : BitVec 32 := 4#32
  let v474 : BitVec 32 := Scalar.remsi v473 c4_i32_405
  let c4_i32_452 : BitVec 32 := 4#32
  let v531 : BitVec 32 := Scalar.muli v474 c4_i32_452
  let c4_i32_5 : BitVec 32 := 4#32
  let v20 : BitVec 32 := Scalar.remsi v2 c4_i32_5
  let c2_i32_451 : BitVec 32 := 2#32
  let v530 : BitVec 32 := Scalar.xori v20 c2_i32_451
  let v532 : BitVec 32 := Scalar.addi v531 v530
  let c1_i32_458 : BitVec 32 := 1#32
  let v534 : BitVec 32 := Scalar.muli v532 c1_i32_458
  let v535 : BitVec 32 := Scalar.addi c0_i32_459 v534
  v535.toNat
def k0_dev30 (d0 : Dev nD) : Nat :=
  let c0_i32_474 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_404 : BitVec 32 := 0#32
  let v473 : BitVec 32 := Scalar.addi v19 c0_i32_404
  let c4_i32_405 : BitVec 32 := 4#32
  let v474 : BitVec 32 := Scalar.remsi v473 c4_i32_405
  let c4_i32_467 : BitVec 32 := 4#32
  let v547 : BitVec 32 := Scalar.muli v474 c4_i32_467
  let c4_i32_5 : BitVec 32 := 4#32
  let v20 : BitVec 32 := Scalar.remsi v2 c4_i32_5
  let c3_i32_466 : BitVec 32 := 3#32
  let v546 : BitVec 32 := Scalar.xori v20 c3_i32_466
  let v548 : BitVec 32 := Scalar.addi v547 v546
  let c1_i32_473 : BitVec 32 := 1#32
  let v550 : BitVec 32 := Scalar.muli v548 c1_i32_473
  let v551 : BitVec 32 := Scalar.addi c0_i32_474 v550
  v551.toNat
def k0_off13 (d0 : Dev nD) (c1_i32_501 : BitVec 32) (c0_i32_504 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v577 : BitVec 32 := Scalar.subi v19 c1_i32_501
  let c4_i32_502 : BitVec 32 := 4#32
  let v578 : BitVec 32 := Scalar.addi v577 c4_i32_502
  let c4_i32_503 : BitVec 32 := 4#32
  let v579 : BitVec 32 := Scalar.remsi v578 c4_i32_503
  let c4_i32_505 : BitVec 32 := 4#32
  let v581 : BitVec 32 := Scalar.muli v579 c4_i32_505
  let c4_i32_5 : BitVec 32 := 4#32
  let v20 : BitVec 32 := Scalar.remsi v2 c4_i32_5
  let v580 : BitVec 32 := Scalar.xori v20 c0_i32_504
  let v582 : BitVec 32 := Scalar.addi v581 v580
  let c256_i32_509 : BitVec 32 := 256#32
  let v586 : BitVec 32 := Scalar.muli v582 c256_i32_509
  let v587 : Index := Scalar.indexCast v586
  let c0_510 : Index := 0#32
  ![v587.toNat, 0]
def k0_off13_at (r : Fin 15) : BitVec 32 × BitVec 32 :=
  if r.val < 7 then
    if r.val < 3 then
      if r.val < 1 then
        (1#32, 0#32)
      else
        if r.val < 2 then
          (1#32, 1#32)
        else
          (1#32, 2#32)
    else
      if r.val < 5 then
        if r.val < 4 then
          (1#32, 3#32)
        else
          (2#32, 0#32)
      else
        if r.val < 6 then
          (2#32, 1#32)
        else
          (2#32, 2#32)
  else
    if r.val < 11 then
      if r.val < 9 then
        if r.val < 8 then
          (2#32, 3#32)
        else
          (3#32, 0#32)
      else
        if r.val < 10 then
          (3#32, 1#32)
        else
          (3#32, 2#32)
    else
      if r.val < 13 then
        if r.val < 12 then
          (3#32, 3#32)
        else
          (0#32, 1#32)
      else
        if r.val < 14 then
          (0#32, 2#32)
        else
          (0#32, 3#32)
abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.KernelIdeal.Mesh.lean ====
/-
# The exchange over the mesh: who sends what to whom

Sixteen devices, device `c` in group `c / 4` at place `c % 4`. A device computes eight column blocks of 256 columns
and sends each half of each block to the device it belongs to. The sixteen half blocks are numbered by the step `t`
at which the kernel takes them up: step `t` works on column block `t / 2`, and its half goes to the device `t / 4 + 1`
groups further on at place `c % 4 xor t % 4` (`tgt`); the piece that arrives in exchange comes from the device as many
groups back (`src`). At step 12 both are the device itself: that half stays. This module states these numbers in
closed form and reads the program's offsets and device numbers as them.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Exchange

open Cert.KernelIdeal Cert.KernelIdeal.Gen
open Idealize.ShloMosaic

/-! ## Targets and sources -/

/-- The device the half block of step `t` goes to. -/
def tgt (c : Dev nD) (t : Fin 16) : Dev nD :=
  ⟨((c.val / 4 + (t.val / 4 + 1)) % 4 * 4 + (c.val % 4 ^^^ t.val % 4)) % 16, Nat.mod_lt _ (by decide)⟩

/-- The device whose half block of step `t` comes here. -/
def src (c : Dev nD) (t : Fin 16) : Dev nD :=
  ⟨((c.val / 4 + (3 - t.val / 4)) % 4 * 4 + (c.val % 4 ^^^ t.val % 4)) % 16, Nat.mod_lt _ (by decide)⟩

/-- The step at which `d`'s half block comes to `c`. -/
def via (c d : Dev nD) : Fin 16 :=
  ⟨((c.val / 4 + 4 - d.val / 4 + 3) % 4 * 4 + (c.val % 4 ^^^ d.val % 4)) % 16, Nat.mod_lt _ (by decide)⟩

/-- Which half of the column block step `t` sends. -/
def half (c : Dev nD) (t : Fin 16) : ℕ := (c.val % 2) ^^^ (t.val % 2)

/-- The column of `W` at which column block `q` starts. -/
def wcol (c : Dev nD) (q : Fin 8) : ℕ := (c.val / 4 + (q.val / 2 + 1)) % 4 * 512 + ((c.val % 4 / 2) ^^^ (q.val % 2)) * 256

/-- The column block step `t` sends a half of. -/
def blk (t : Fin 16) : Fin 8 := ⟨t.val / 2, by omega⟩

/-- The receive slot of step `t`. -/
def slot (t : Fin 16) : Fin 16 := ⟨(t.val + 4) % 16, Nat.mod_lt _ (by decide)⟩
/-- The step of a receive slot. -/
def unslot (s : Fin 16) : Fin 16 := ⟨(s.val + 12) % 16, Nat.mod_lt _ (by decide)⟩

/-- How many signals device `c` has sent when it signals the source of step `t`: the signals go to the devices after `c`
    in order. Zero at step 12, where the source is `c`. -/
def rank (c : Dev nD) (t : Fin 16) : ℕ := ((src c t).val + 16 - c.val) % 16

theorem src_tgt : ∀ (c : Dev nD) (t : Fin 16), src (tgt c t) t = c := by decide +kernel
theorem tgt_src : ∀ (c : Dev nD) (t : Fin 16), tgt (src c t) t = c := by decide +kernel
theorem src_via : ∀ c d : Dev nD, src c (via c d) = d := by decide +kernel
theorem via_src : ∀ (c : Dev nD) (t : Fin 16), via c (src c t) = t := by decide +kernel
theorem src_own : ∀ c : Dev nD, src c 12 = c := by decide +kernel
theorem tgt_own : ∀ c : Dev nD, tgt c 12 = c := by decide +kernel
theorem half_lt : ∀ (c : Dev nD) (t : Fin 16), half c t < 2 := by decide +kernel
theorem half_inj : ∀ (c : Dev nD) (t t' : Fin 16), t.val / 2 = t'.val / 2 → half c t = half c t' → t = t' := by decide +kernel
theorem half_cover : ∀ (c : Dev nD) (q : Fin 8) (h : Fin 2), ∃ t : Fin 16, t.val / 2 = q.val ∧ half c t = h.val := by decide +kernel
theorem wcol_le : ∀ (c : Dev nD) (q : Fin 8), wcol c q + 256 ≤ 2048 := by decide +kernel
theorem unslot_slot : ∀ t : Fin 16, unslot (slot t) = t := by decide +kernel
theorem slot_unslot : ∀ s : Fin 16, slot (unslot s) = s := by decide +kernel
theorem rank_pos : ∀ (c : Dev nD) (t : Fin 16), t ≠ 12 → 0 < rank c t := by decide +kernel
theorem rank_le : ∀ (c : Dev nD) (t : Fin 16), rank c t ≤ 15 := by decide +kernel
theorem rank_inj : ∀ (c : Dev nD) (t t' : Fin 16), rank c t = rank c t' → t = t' := by decide +kernel
/-- The column block the source of step `t` sends half of to `c` is the block of `W` with `c`'s columns. -/
theorem wcol_src : ∀ (c : Dev nD) (t : Fin 16), wcol (src c t) (blk t) + 128 * half (src c t) t = 128 * c.val := by decide +kernel

/-! ## The program's offsets and device numbers -/

/-- The step whose source the `J`-th signal goes to. -/
def stepOf (c : Dev nD) (J : ℕ) : Fin 16 := via c ⟨(c.val + J) % 16, Nat.mod_lt _ (by decide)⟩

theorem stepOf_spec : ∀ (c : Dev nD) (J : Fin 16), J ≠ 0 →
    stepOf c J.val ≠ 12 ∧ rank c (stepOf c J.val) = J.val ∧ (src c (stepOf c J.val)).val = (c.val + J.val) % 16 := by decide +kernel

theorem off1_eq : ∀ (c : Dev nD) (q : Fin 8),
    k0_off1 c (BitVec.ofNat 32 ((q.val / 2 + 1) % 4)) (BitVec.ofNat 32 (q.val % 2)) = ![0, wcol c q] := by decide +kernel

theorem dev16_eq : ∀ c : Dev nD, k0_dev16 c = (tgt c 0).val := by decide +kernel
theorem dev17_eq : ∀ c : Dev nD, k0_dev17 c = (tgt c 1).val := by decide +kernel
theorem dev18_eq : ∀ c : Dev nD, k0_dev18 c = (tgt c 2).val := by decide +kernel
theorem dev19_eq : ∀ c : Dev nD, k0_dev19 c = (tgt c 3).val := by decide +kernel
theorem dev20_eq : ∀ c : Dev nD, k0_dev20 c = (tgt c 4).val := by decide +kernel
theorem dev21_eq : ∀ c : Dev nD, k0_dev21 c = (tgt c 5).val := by decide +kernel
theorem dev22_eq : ∀ c : Dev nD, k0_dev22 c = (tgt c 6).val := by decide +kernel
theorem dev23_eq : ∀ c : Dev nD, k0_dev23 c = (tgt c 7).val := by decide +kernel
theorem dev24_eq : ∀ c : Dev nD, k0_dev24 c = (tgt c 8).val := by decide +kernel
theorem dev25_eq : ∀ c : Dev nD, k0_dev25 c = (tgt c 9).val := by decide +kernel
theorem dev26_eq : ∀ c : Dev nD, k0_dev26 c = (tgt c 10).val := by decide +kernel
theorem dev27_eq : ∀ c : Dev nD, k0_dev27 c = (tgt c 11).val := by decide +kernel
theorem dev28_eq : ∀ c : Dev nD, k0_dev28 c = (tgt c 13).val := by decide +kernel
theorem dev29_eq : ∀ c : Dev nD, k0_dev29 c = (tgt c 14).val := by decide +kernel
theorem dev30_eq : ∀ c : Dev nD, k0_dev30 c = (tgt c 15).val := by decide +kernel

theorem off3_eq : ∀ (c : Dev nD) (r : Fin 2), k0_off3 c (BitVec.ofNat 32 r.val) = ![0, 0, 128 * half c ⟨0 + r.val, by omega⟩] := by decide +kernel
theorem off4_eq : ∀ (c : Dev nD) (r : Fin 2), k0_off4 c (BitVec.ofNat 32 r.val) = ![1, 0, 128 * half c ⟨2 + r.val, by omega⟩] := by decide +kernel
theorem off5_eq : ∀ (c : Dev nD) (r : Fin 2), k0_off5 c (BitVec.ofNat 32 r.val) = ![2, 0, 128 * half c ⟨4 + r.val, by omega⟩] := by decide +kernel
theorem off6_eq : ∀ (c : Dev nD) (r : Fin 2), k0_off6 c (BitVec.ofNat 32 r.val) = ![3, 0, 128 * half c ⟨6 + r.val, by omega⟩] := by decide +kernel
theorem off7_eq : ∀ (c : Dev nD) (r : Fin 2), k0_off7 c (BitVec.ofNat 32 r.val) = ![4, 0, 128 * half c ⟨8 + r.val, by omega⟩] := by decide +kernel
theorem off8_eq : ∀ (c : Dev nD) (r : Fin 2), k0_off8 c (BitVec.ofNat 32 r.val) = ![5, 0, 128 * half c ⟨10 + r.val, by omega⟩] := by decide +kernel
theorem off11_eq : ∀ c : Dev nD, k0_off11 c = ![6, 0, 128 * half c 13] := by decide +kernel
theorem off12_eq : ∀ (c : Dev nD) (r : Fin 2), k0_off12 c (BitVec.ofNat 32 r.val) = ![7, 0, 128 * half c ⟨14 + r.val, by omega⟩] := by decide +kernel
theorem off9_eq : ∀ c : Dev nD, k0_off9 c = ![0, 128 * half c 12] := by decide +kernel
theorem off10_eq : ∀ c : Dev nD, k0_off10 c = ![256 * (src c 12).val, 0] := by decide +kernel
/-- The rows of the result the piece of step `t` is stored at. -/
theorem off13_eq : ∀ (c : Dev nD) (t : Fin 16), t ≠ 12 →
    k0_off13 c (BitVec.ofNat 32 ((t.val / 4 + 1) % 4)) (BitVec.ofNat 32 (t.val % 4)) = ![256 * (src c t).val, 0] := by decide +kernel

end Cert.KernelIdeal.Exchange

end
-- ==== Proof.KernelIdeal.Contents.lean ====
/-
# The buffers of the exchange: their parts and what they come to hold

The parts of the buffers the transfers move, as views, with the elements under each; and the contents every buffer
comes to hold, as functions of the arguments alone: the column blocks of `W` (`wFull`), the column blocks of the
activated product (`yFull`), the half blocks received (`rFull`) and the result (`outFull`). Each load of the kernel
then reads one of these, and each store or transfer writes one of them.
-/
module

public import proofs.«01_k».proof.Proof.KernelIdeal.Mesh
public import Idealize.ShloMosaic.Lib.ValueIdxCoords
public import Idealize.ShloMosaic.Lib.ViewIndex

@[expose] public section

noncomputable section

namespace Cert.KernelIdeal.Exchange

open Cert.KernelIdeal Cert.KernelIdeal.Gen
open Idealize.ShloMosaic Idealize.ShloMosaic.TcCoe Idealize.ShloMosaic.ValueIdx

variable {F : FTy → Type} [FloatOps F]

/-! ## The memrefs -/

abbrev xM : Memref sig .tc .vmem S256x4096 .f32 := Memref.whole cc0_stg0_0
abbrev wM : Memref sig .tc .hbm S4096x2048 .f32 := Memref.whole main_arg1
abbrev oM : Memref sig .tc .vmem S4096x128 .f32 := Memref.whole cc0_stg1_0
abbrev bM : Memref sig .tc .vmem S8x4096x256 .f32 := Memref.whole cc0_scratch0
abbrev fM : Memref sig .tc .vmem S256x256 .f32 := Memref.whole cc0_scratch1
abbrev yM : Memref sig .tc .vmem S8x256x256 .bf16 := Memref.whole cc0_scratch2
abbrev rM : Memref sig .tc .vmem S16x256x128 .bf16 := Memref.whole cc0_scratch3

theorem wSrc_inb (c : Dev nD) (q : Fin 8) : ∀ a, (![0, wcol c q] : Fin 2 → ℕ) a + S4096x256.size a ≤ S4096x2048.size a := by
  intro a
  match a with
  | ⟨0, _⟩ => exact (show 0 + 4096 ≤ 4096 by decide)
  | ⟨1, _⟩ => exact wcol_le c q
theorem bSlot_inb (q : Fin 8) : ∀ a, (![q.val, 0, 0] : Fin 3 → ℕ) a + S1x4096x256.size a ≤ S8x4096x256.size a := by
  revert q; decide
theorem ySlot_inb (q : Fin 8) : ∀ a, (![q.val, 0, 0] : Fin 3 → ℕ) a + S1x256x256.size a ≤ S8x256x256.size a := by
  revert q; decide
theorem yHalf_inb (c : Dev nD) (t : Fin 16) : ∀ a, (![(blk t).val, 0, 128 * half c t] : Fin 3 → ℕ) a + S1x256x128.size a ≤ S8x256x256.size a := by
  revert c t; decide +kernel
theorem rSlot_inb (t : Fin 16) : ∀ a, (![(slot t).val, 0, 0] : Fin 3 → ℕ) a + S1x256x128.size a ≤ S16x256x128.size a := by
  revert t; decide

/-- Column block `q` of `W` as device `c` takes it. -/
abbrev wSrc (c : Dev nD) (q : Fin 8) : Memref sig .tc .hbm S4096x256 .f32 :=
  wM.slice (Rect.unit (s := S4096x2048) ![0, wcol c q] S4096x256.size (wSrc_inb c q)) (fun _ => rfl)
/-- Slot `q` of the block buffer. -/
abbrev bSlot (q : Fin 8) : Memref sig .tc .vmem S4096x256 .f32 :=
  (bM.slice (Rect.unit (s := S8x4096x256) ![q.val, 0, 0] S1x4096x256.size (bSlot_inb q)) (fun _ => rfl)).squeeze S4096x256 squeezes_S1x4096x256_S4096x256
/-- Slot `q` of the product buffer. -/
abbrev yRect (q : Fin 8) : Rect S8x256x256 := Rect.unit (s := S8x256x256) ![q.val, 0, 0] S1x256x256.size (ySlot_inb q)
def ySlot (q : Fin 8) : Finset S8x256x256.Idx := (yRect q).set
/-- The half block device `c` sends at step `t`. -/
abbrev yHalf (c : Dev nD) (t : Fin 16) : Memref sig .tc .vmem S256x128 .bf16 :=
  (yM.slice (Rect.unit (s := S8x256x256) ![(blk t).val, 0, 128 * half c t] S1x256x128.size (yHalf_inb c t)) (fun _ => rfl)).squeeze S256x128 squeezes_S1x256x128_S256x128
/-- The receive slot of step `t`. -/
abbrev rSlot (t : Fin 16) : Memref sig .tc .vmem S256x128 .bf16 :=
  (rM.slice (Rect.unit (s := S16x256x128) ![(slot t).val, 0, 0] S1x256x128.size (rSlot_inb t)) (fun _ => rfl)).squeeze S256x128 squeezes_S1x256x128_S256x128

/-! ### The program's spellings of them -/

theorem wSrc_of {c : Dev nD} {q : Fin 8} {off : Fin 2 → ℕ} (h : off = ![0, wcol c q])
    (inb : ∀ a, off a + S4096x256.size a ≤ S4096x2048.size a) (hs) :
    wM.slice (Rect.unit (s := S4096x2048) off S4096x256.size inb) hs = wSrc c q := by subst h; rfl
theorem bSlot_of {q : Fin 8} {off : Fin 3 → ℕ} (h : off = ![q.val, 0, 0])
    (inb : ∀ a, off a + S1x4096x256.size a ≤ S8x4096x256.size a) (hs) (hq) :
    (bM.slice (Rect.unit (s := S8x4096x256) off S1x4096x256.size inb) hs).squeeze S4096x256 hq = bSlot q := by subst h; rfl
theorem yHalf_of {c : Dev nD} {t : Fin 16} {off : Fin 3 → ℕ} (h : off = ![(blk t).val, 0, 128 * half c t])
    (inb : ∀ a, off a + S1x256x128.size a ≤ S8x256x256.size a) (hs) (hq) :
    (yM.slice (Rect.unit (s := S8x256x256) off S1x256x128.size inb) hs).squeeze S256x128 hq = yHalf c t := by subst h; rfl
theorem rSlot_of {t : Fin 16} {off : Fin 3 → ℕ} (h : off = ![(slot t).val, 0, 0])
    (inb : ∀ a, off a + S1x256x128.size a ≤ S16x256x128.size a) (hs) (hq) :
    (rM.slice (Rect.unit (s := S16x256x128) off S1x256x128.size inb) hs).squeeze S256x128 hq = rSlot t := by subst h; rfl

/-! ### The elements under them -/

section Sets

/-- The elements of slot `q` of the block buffer, of a half block, of a receive slot. -/
abbrev bSet (q : Fin 8) : Finset S8x4096x256.Idx := (bSlot q).view.set
abbrev yHalfSet (c : Dev nD) (t : Fin 16) : Finset S8x256x256.Idx := (yHalf c t).view.set
abbrev rSet (t : Fin 16) : Finset S16x256x128.Idx := (rSlot t).view.set
abbrev wSet (c : Dev nD) (q : Fin 8) : Finset S4096x2048.Idx := (wSrc c q).view.set

theorem bSet_eq (q : Fin 8) : bSet q = (Rect.unit (s := S8x4096x256) ![q.val, 0, 0] S1x4096x256.size (bSlot_inb q)).set :=
  (View.set_reshape _ _).trans (View.set_slice_whole _ _)
theorem yHalfSet_eq (c : Dev nD) (t : Fin 16) :
    yHalfSet c t = (Rect.unit (s := S8x256x256) ![(blk t).val, 0, 128 * half c t] S1x256x128.size (yHalf_inb c t)).set :=
  (View.set_reshape _ _).trans (View.set_slice_whole _ _)
theorem rSet_eq (t : Fin 16) : rSet t = (Rect.unit (s := S16x256x128) ![(slot t).val, 0, 0] S1x256x128.size (rSlot_inb t)).set :=
  (View.set_reshape _ _).trans (View.set_slice_whole _ _)

theorem bSlot_mem (q : Fin 8) (i : S8x4096x256.Idx) : i ∈ bSet q ↔ (i 0).val = q.val := by
  have h1 : (i 1).val < 4096 := (i 1).isLt
  have h2 : (i 2).val < 256 := (i 2).isLt
  rw [bSet_eq, Rect.mem_set_unit, Fin.forall_fin_succ, Fin.forall_fin_succ, Fin.forall_fin_succ]
  show ((q.val ≤ (i 0).val ∧ (i 0).val < q.val + 1) ∧ (0 ≤ (i 1).val ∧ (i 1).val < 0 + 4096) ∧ (0 ≤ (i 2).val ∧ (i 2).val < 0 + 256) ∧ _) ↔ _
  constructor
  · rintro ⟨h, -⟩; omega
  · intro h; exact ⟨by omega, by omega, by omega, fun a => a.elim0⟩

theorem ySlot_mem (q : Fin 8) (i : S8x256x256.Idx) : i ∈ ySlot q ↔ (i 0).val = q.val := by
  have h1 : (i 1).val < 256 := (i 1).isLt
  have h2 : (i 2).val < 256 := (i 2).isLt
  unfold ySlot
  rw [Rect.mem_set_unit, Fin.forall_fin_succ, Fin.forall_fin_succ, Fin.forall_fin_succ]
  show ((q.val ≤ (i 0).val ∧ (i 0).val < q.val + 1) ∧ (0 ≤ (i 1).val ∧ (i 1).val < 0 + 256) ∧ (0 ≤ (i 2).val ∧ (i 2).val < 0 + 256) ∧ _) ↔ _
  constructor
  · rintro ⟨h, -⟩; omega
  · intro h; exact ⟨by omega, by omega, by omega, fun a => a.elim0⟩

theorem yHalf_mem (c : Dev nD) (t : Fin 16) (i : S8x256x256.Idx) :
    i ∈ yHalfSet c t ↔ (i 0).val = t.val / 2 ∧ (i 2).val / 128 = half c t := by
  have h1 : (i 1).val < 256 := (i 1).isLt
  rw [yHalfSet_eq, Rect.mem_set_unit, Fin.forall_fin_succ, Fin.forall_fin_succ, Fin.forall_fin_succ]
  show ((t.val / 2 ≤ (i 0).val ∧ (i 0).val < t.val / 2 + 1) ∧ (0 ≤ (i 1).val ∧ (i 1).val < 0 + 256)
    ∧ (128 * half c t ≤ (i 2).val ∧ (i 2).val < 128 * half c t + 128) ∧ _) ↔ _
  constructor
  · rintro ⟨h, -, h', -⟩; omega
  · rintro ⟨h, h'⟩; exact ⟨by omega, by omega, by omega, fun a => a.elim0⟩

theorem rSlot_mem (t : Fin 16) (i : S16x256x128.Idx) : i ∈ rSet t ↔ (i 0).val = (slot t).val := by
  have h1 : (i 1).val < 256 := (i 1).isLt
  have h2 : (i 2).val < 128 := (i 2).isLt
  rw [rSet_eq, Rect.mem_set_unit, Fin.forall_fin_succ, Fin.forall_fin_succ, Fin.forall_fin_succ]
  show (((slot t).val ≤ (i 0).val ∧ (i 0).val < (slot t).val + 1) ∧ (0 ≤ (i 1).val ∧ (i 1).val < 0 + 256) ∧ (0 ≤ (i 2).val ∧ (i 2).val < 0 + 128) ∧ _) ↔ _
  constructor
  · rintro ⟨h, -⟩; omega
  · intro h; exact ⟨by omega, by omega, by omega, fun a => a.elim0⟩

theorem bSlot_disj : ∀ q q' : Fin 8, q ≠ q' → Disjoint (bSet q) (bSet q') := fun q q' h =>
  Finset.disjoint_left.mpr fun i h1 h2 => h (Fin.ext (((bSlot_mem q i).mp h1).symm.trans ((bSlot_mem q' i).mp h2)))
theorem bSlot_cover : (Finset.univ : Finset (Fin 8)).biUnion (fun q => bSet q) = Finset.univ := by
  ext i; simp only [Finset.mem_biUnion, Finset.mem_univ, true_and, iff_true]
  exact ⟨i 0, (bSlot_mem _ i).mpr rfl⟩

theorem ySlot_disj : ∀ q q' : Fin 8, q ≠ q' → Disjoint (ySlot q) (ySlot q') := fun q q' h =>
  Finset.disjoint_left.mpr fun i h1 h2 => h (Fin.ext (((ySlot_mem q i).mp h1).symm.trans ((ySlot_mem q' i).mp h2)))
theorem ySlot_cover : (Finset.univ : Finset (Fin 8)).biUnion (fun q => ySlot q) = Finset.univ := by
  ext i; simp only [Finset.mem_biUnion, Finset.mem_univ, true_and, iff_true]
  exact ⟨i 0, (ySlot_mem _ i).mpr rfl⟩

theorem yHalf_disj (c : Dev nD) : ∀ t t' : Fin 16, t ≠ t' → Disjoint (yHalfSet c t) (yHalfSet c t') := fun t t' h =>
  Finset.disjoint_left.mpr fun i h1 h2 => by
    have a := (yHalf_mem c t i).mp h1
    have b := (yHalf_mem c t' i).mp h2
    exact h (half_inj c t t' (a.1.symm.trans b.1) (a.2.symm.trans b.2))
theorem yHalf_cover (c : Dev nD) : (Finset.univ : Finset (Fin 16)).biUnion (fun t => yHalfSet c t) = Finset.univ := by
  ext i; simp only [Finset.mem_biUnion, Finset.mem_univ, true_and, iff_true]
  have h2 : (i 2).val < 256 := (i 2).isLt
  obtain ⟨t, h, h'⟩ := half_cover c (i 0) ⟨(i 2).val / 128, by omega⟩
  exact ⟨t, (yHalf_mem c t i).mpr ⟨h.symm, h'.symm⟩⟩

theorem rSlot_disj : ∀ t t' : Fin 16, t ≠ t' → Disjoint (rSet t) (rSet t') := fun t t' h =>
  Finset.disjoint_left.mpr fun i h1 h2 => h (by
    have := congrArg unslot (Fin.ext (((rSlot_mem t i).mp h1).symm.trans ((rSlot_mem t' i).mp h2)))
    rwa [unslot_slot, unslot_slot] at this)
theorem rSlot_cover : (Finset.univ : Finset (Fin 16)).biUnion (fun t => rSet t) = Finset.univ := by
  ext i; simp only [Finset.mem_biUnion, Finset.mem_univ, true_and, iff_true]
  exact ⟨unslot (i 0), (rSlot_mem _ i).mpr (congrArg Fin.val (slot_unslot (i 0))).symm⟩

/-- The two halves of a column block make up its slot. -/
theorem ySlot_halves (c : Dev nD) (t t' : Fin 16) (h : t ≠ t') (hb : blk t = blk t') :
    ySlot (blk t) = yHalfSet c t ∪ yHalfSet c t' := by
  have hb' : t.val / 2 = t'.val / 2 := congrArg Fin.val hb
  have hh : half c t ≠ half c t' := fun e => h (half_inj c t t' hb' e)
  have l := half_lt c t
  have l' := half_lt c t'
  ext i
  have h2 : (i 2).val < 256 := (i 2).isLt
  rw [Finset.mem_union, ySlot_mem, yHalf_mem, yHalf_mem]
  show (i 0).val = t.val / 2 ↔ _
  omega

end Sets

/-! ### Their elements by coordinates -/

theorem wSrc_emb (c : Dev nD) (q : Fin 8) (x : S4096x256.Idx) :
    (((wSrc c q).view.emb x : S4096x2048.Idx) 0).val = (x 0).val ∧ (((wSrc c q).view.emb x : S4096x2048.Idx) 1).val = wcol c q + (x 1).val :=
  ⟨by show 0 + 1 * (x 0).val = _; omega, by show wcol c q + 1 * (x 1).val = _; omega⟩

theorem bSlot_emb (q : Fin 8) (x : S4096x256.Idx) :
    (((bSlot q).view.emb x : S8x4096x256.Idx) 0).val = q.val ∧ (((bSlot q).view.emb x : S8x4096x256.Idx) 1).val = (x 0).val
      ∧ (((bSlot q).view.emb x : S8x4096x256.Idx) 2).val = (x 1).val := by
  have e : (bSlot q).view.emb x = (Rect.unit (s := S8x4096x256) ![q.val, 0, 0] S1x4096x256.size (bSlot_inb q)).emb
      (Fin.cons ⟨0, Nat.one_pos⟩ x : S1x4096x256.Idx) :=
    congrArg (Rect.unit (s := S8x4096x256) ![q.val, 0, 0] S1x4096x256.size (bSlot_inb q)).emb
      (Shape.reshapeEquiv_cons_one (d := ![4096, 256]) (squeezes_S1x4096x256_S4096x256).numel_eq x)
  rw [e]
  refine ⟨?_, ?_, ?_⟩
  · show q.val + 1 * 0 = _; omega
  · show 0 + 1 * (x 0).val = _; omega
  · show 0 + 1 * (x 1).val = _; omega

theorem yHalf_emb (c : Dev nD) (t : Fin 16) (x : S256x128.Idx) :
    (((yHalf c t).view.emb x : S8x256x256.Idx) 0).val = t.val / 2 ∧ (((yHalf c t).view.emb x : S8x256x256.Idx) 1).val = (x 0).val
      ∧ (((yHalf c t).view.emb x : S8x256x256.Idx) 2).val = 128 * half c t + (x 1).val := by
  have e : (yHalf c t).view.emb x = (Rect.unit (s := S8x256x256) ![(blk t).val, 0, 128 * half c t] S1x256x128.size (yHalf_inb c t)).emb
      (Fin.cons ⟨0, Nat.one_pos⟩ x : S1x256x128.Idx) :=
    congrArg (Rect.unit (s := S8x256x256) ![(blk t).val, 0, 128 * half c t] S1x256x128.size (yHalf_inb c t)).emb
      (Shape.reshapeEquiv_cons_one (d := ![256, 128]) (squeezes_S1x256x128_S256x128).numel_eq x)
  rw [e]
  refine ⟨?_, ?_, ?_⟩
  · show t.val / 2 + 1 * 0 = _; omega
  · show 0 + 1 * (x 0).val = _; omega
  · show 128 * half c t + 1 * (x 1).val = _; omega

theorem rSlot_emb (t : Fin 16) (x : S256x128.Idx) :
    (((rSlot t).view.emb x : S16x256x128.Idx) 0).val = (slot t).val ∧ (((rSlot t).view.emb x : S16x256x128.Idx) 1).val = (x 0).val
      ∧ (((rSlot t).view.emb x : S16x256x128.Idx) 2).val = (x 1).val := by
  have e : (rSlot t).view.emb x = (Rect.unit (s := S16x256x128) ![(slot t).val, 0, 0] S1x256x128.size (rSlot_inb t)).emb
      (Fin.cons ⟨0, Nat.one_pos⟩ x : S1x256x128.Idx) :=
    congrArg (Rect.unit (s := S16x256x128) ![(slot t).val, 0, 0] S1x256x128.size (rSlot_inb t)).emb
      (Shape.reshapeEquiv_cons_one (d := ![256, 128]) (squeezes_S1x256x128_S256x128).numel_eq x)
  rw [e]
  refine ⟨?_, ?_, ?_⟩
  · show (slot t).val + 1 * 0 = _; omega
  · show 0 + 1 * (x 0).val = _; omega
  · show 0 + 1 * (x 1).val = _; omega

/-! ## Contents -/

variable (m : (ℓ : Loc nD τ sig) → Buf (Elt F) ℓ)

/-- Device `c`'s rows of `x`, as the kernel finds them staged. -/
def xs (c : Dev nD) : (cc0_stg0_0 : Ref sig .tc).ty.Contents (Elt F) :=
  (win0_0.blk (0 : Fin 1)).view.read (Elt F) (m ((c : Thread nD τ).loc main_arg0))

/-- `W`. -/
def wAll (c : Dev nD) : Buf (Elt F) ((c : Thread nD τ).loc main_arg1) := m ((c : Thread nD τ).loc main_arg1)

/-- Column block `q` of `W` as device `c` takes it. -/
def wBlk (c : Dev nD) (q : Fin 8) : Vec F S1x4096x256 .f32 := fun i =>
  wAll m c (ix2 (n0 := 4096) (n1 := 2048) (i 1) ⟨wcol c q + (i 2).val, by
    have h : (i 2).val < 256 := (i 2).isLt
    have := wcol_le c q; omega⟩)

/-- Column block `q` of device `c`'s activated product, rounded. -/
def yBlk (c : Dev nD) (q : Fin 8) : Vec F S1x256x256 .bf16 := k0_pay4 (k0_pay2 (xs m c)) (wBlk m c q)

/-- The half block device `c` sends at step `t`. -/
def yPart (c : Dev nD) (t : Fin 16) : Vec F S1x256x128 .bf16 := fun i =>
  yBlk m c (blk t) (ix3 (n0 := 1) (n1 := 256) (n2 := 256) (i 0) (i 1) ⟨128 * half c t + (i 2).val, by
    have h : (i 2).val < 128 := (i 2).isLt
    have := half_lt c t; omega⟩)

/-- The column block whose own half stays, not rounded. -/
def yOwn (c : Dev nD) : Vec F S256x256 .f32 := k0_pay12 (k0_pay2 (xs m c)) (wBlk m c 6)

/-- The rows of the result that come at step `t`: received and widened, or its own. -/
def piece (c : Dev nD) (t : Fin 16) : Vec F S256x128 .f32 :=
  if t = 12 then fun i => yOwn m c (ix2 (n0 := 256) (n1 := 256) (i 0) ⟨128 * half c 12 + (i 1).val, by
    have h : (i 1).val < 128 := (i 1).isLt
    have := half_lt c 12; omega⟩)
  else k0_pay1 (yPart m (src c t) t)

/-- The block buffer, filled. -/
def bFull (c : Dev nD) : Buf (Elt F) ((c : Thread nD τ).loc cc0_scratch0) := fun i : S8x4096x256.Idx =>
  wBlk m c (i 0) (ix3 (n0 := 1) (n1 := 4096) (n2 := 256) 0 (i 1) (i 2))
/-- The product buffer, filled. -/
def yFull (c : Dev nD) : Buf (Elt F) ((c : Thread nD τ).loc cc0_scratch2) := fun i : S8x256x256.Idx =>
  yBlk m c (i 0) (ix3 (n0 := 1) (n1 := 256) (n2 := 256) 0 (i 1) (i 2))
/-- The receive buffer, filled. -/
def rFull (c : Dev nD) : Buf (Elt F) ((c : Thread nD τ).loc cc0_scratch3) := fun i : S16x256x128.Idx =>
  yPart m (src c (unslot (i 0))) (unslot (i 0)) (ix3 (n0 := 1) (n1 := 256) (n2 := 128) 0 (i 1) (i 2))
/-- The device a row of the result comes from. -/
def rowDev (i : S4096x128.Idx) : Dev nD := ⟨(i 0).val / 256, by
  have h : (i 0).val < 4096 := (i 0).isLt
  show _ < 16; omega⟩
/-- The result: the 256 rows of device `d` from the step at which they come. -/
def outFull (c : Dev nD) : (cc0_stg1_0 : Ref sig .tc).ty.Contents (Elt F) := fun i : S4096x128.Idx =>
  piece m c (via c (rowDev i)) (ix2 (n0 := 256) (n1 := 128) ⟨(i 0).val % 256, Nat.mod_lt _ (by decide)⟩ (i 1))

/-! ### The contents at an index given by its coordinates -/

omit [FloatOps F] in
theorem bFull_of (c : Dev nD) (j : S8x4096x256.Idx) (q : Fin 8) (x : S1x4096x256.Idx)
    (h0 : (j 0).val = q.val) (h1 : (j 1).val = (x 1).val) (h2 : (j 2).val = (x 2).val) : bFull m c j = wBlk m c q x := by
  have hx : (x 0).val < 1 := (x 0).isLt
  unfold bFull
  rw [show j 0 = q from Fin.ext h0]
  refine congrArg (wBlk m c q) (funext fun a => ?_)
  match a with
  | ⟨0, _⟩ => exact Fin.ext (show 0 = (x 0).val by omega)
  | ⟨1, _⟩ => exact Fin.ext h1
  | ⟨2, _⟩ => exact Fin.ext h2

omit [FloatOps F] in
theorem wBlk_of (c : Dev nD) (q : Fin 8) (x : S1x4096x256.Idx) (w : S4096x2048.Idx)
    (h0 : (w 0).val = (x 1).val) (h1 : (w 1).val = wcol c q + (x 2).val) : wBlk m c q x = wAll m c w := by
  unfold wBlk
  refine congrArg (wAll m c) (funext fun a => ?_)
  match a with
  | ⟨0, _⟩ => exact Fin.ext h0.symm
  | ⟨1, _⟩ => exact Fin.ext h1.symm

theorem yFull_of (c : Dev nD) (j : S8x256x256.Idx) (q : Fin 8) (x : S1x256x256.Idx)
    (h0 : (j 0).val = q.val) (h1 : (j 1).val = (x 1).val) (h2 : (j 2).val = (x 2).val) : yFull m c j = yBlk m c q x := by
  have hx : (x 0).val < 1 := (x 0).isLt
  unfold yFull
  rw [show j 0 = q from Fin.ext h0]
  refine congrArg (yBlk m c q) (funext fun a => ?_)
  match a with
  | ⟨0, _⟩ => exact Fin.ext (show 0 = (x 0).val by omega)
  | ⟨1, _⟩ => exact Fin.ext h1
  | ⟨2, _⟩ => exact Fin.ext h2

theorem yPart_of (c : Dev nD) (t : Fin 16) (x : S1x256x128.Idx) (z : S1x256x256.Idx)
    (h1 : (z 1).val = (x 1).val) (h2 : (z 2).val = 128 * half c t + (x 2).val) : yPart m c t x = yBlk m c (blk t) z := by
  have hx : (x 0).val < 1 := (x 0).isLt
  have hz : (z 0).val < 1 := (z 0).isLt
  unfold yPart
  refine congrArg (yBlk m c (blk t)) (funext fun a => ?_)
  match a with
  | ⟨0, _⟩ => exact Fin.ext (show (x 0).val = (z 0).val by omega)
  | ⟨1, _⟩ => exact Fin.ext h1.symm
  | ⟨2, _⟩ => exact Fin.ext h2.symm

theorem rFull_of (c : Dev nD) (j : S16x256x128.Idx) (t : Fin 16) (x : S1x256x128.Idx)
    (h0 : (j 0).val = (slot t).val) (h1 : (j 1).val = (x 1).val) (h2 : (j 2).val = (x 2).val) : rFull m c j = yPart m (src c t) t x := by
  have hx : (x 0).val < 1 := (x 0).isLt
  unfold rFull
  rw [show j 0 = slot t from Fin.ext h0, unslot_slot]
  refine congrArg (yPart m (src c t) t) (funext fun a => ?_)
  match a with
  | ⟨0, _⟩ => exact Fin.ext (show 0 = (x 0).val by omega)
  | ⟨1, _⟩ => exact Fin.ext h1
  | ⟨2, _⟩ => exact Fin.ext h2

theorem outFull_of (c : Dev nD) (j : S4096x128.Idx) (t : Fin 16) (x : S256x128.Idx)
    (h0 : (j 0).val = 256 * (src c t).val + (x 0).val) (h1 : (j 1).val = (x 1).val) : outFull m c j = piece m c t x := by
  have hx : (x 0).val < 256 := (x 0).isLt
  have hd : rowDev j = src c t := Fin.ext (show (j 0).val / 256 = _ by omega)
  unfold outFull
  rw [hd, via_src]
  refine congrArg (piece m c t) (funext fun a => ?_)
  match a with
  | ⟨0, _⟩ => exact Fin.ext (show (j 0).val % 256 = (x 0).val by omega)
  | ⟨1, _⟩ => exact Fin.ext h1

/-! ### What a transfer leaves -/

omit [FloatOps F] in
/-- A copy of column block `q` fills slot `q`. -/
theorem copy_fills (c : Dev nD) (q : Fin 8) (fd : Buf (Elt F) ((bSlot q).view.loc (c : Thread nD τ))) :
    ∀ i ∈ (bSlot q).view.set, (bSlot q).view.write (Elt F) fd ((wSrc c q).view.read (Elt F) (wAll m c)) Finset.univ i = bFull m c i := by
  intro i hi
  obtain ⟨x, -, rfl⟩ := Finset.mem_map.mp hi
  rw [View.write_emb_of_mem _ _ (Finset.mem_univ _)]
  obtain ⟨e0, e1, e2⟩ := bSlot_emb q x
  obtain ⟨w0, w1⟩ := wSrc_emb c q x
  exact ((bFull_of m c _ q (ix3 (n0 := 1) (n1 := 4096) (n2 := 256) 0 (x 0) (x 1)) e0 e1 e2).trans
    (wBlk_of m c q _ ((wSrc c q).view.emb x) w0 w1)).symm

/-- The transfer of step `t` fills the receive slot of step `t` on its target. -/
theorem send_fills (c : Dev nD) (t : Fin 16) (fd : Buf (Elt F) ((rSlot t).view.loc (tgt c t : Thread nD τ))) :
    ∀ i ∈ (rSlot t).view.set, (rSlot t).view.write (Elt F) fd ((yHalf c t).view.read (Elt F) (yFull m c)) Finset.univ i = rFull m (tgt c t) i := by
  intro i hi
  obtain ⟨x, -, rfl⟩ := Finset.mem_map.mp hi
  rw [View.write_emb_of_mem _ _ (Finset.mem_univ _)]
  obtain ⟨e0, e1, e2⟩ := rSlot_emb t x
  obtain ⟨y0, y1, y2⟩ := yHalf_emb c t x
  have hx : (x 1).val < 128 := (x 1).isLt
  have hh := half_lt c t
  have r := rFull_of m (tgt c t) ((rSlot t).view.emb x) t (ix3 (n0 := 1) (n1 := 256) (n2 := 128) 0 (x 0) (x 1)) e0 e1 e2
  rw [src_tgt] at r
  refine Eq.trans ?_ r.symm
  exact (yFull_of m c ((yHalf c t).view.emb x) (blk t) (ix3 (n0 := 1) (n1 := 256) (n2 := 256) 0 (x 0) ⟨128 * half c t + (x 1).val, by omega⟩) y0 y1 y2).trans
    (yPart_of m c t _ _ rfl rfl).symm

/-! ### What a load reads -/

omit [FloatOps F] in
/-- Slot `q` of the filled block buffer is column block `q`. -/
theorem read_bFull (c : Dev nD) (q : Fin 8) {off : Fin 3 → ℕ} (h : off = ![q.val, 0, 0]) (inb : ∀ a, off a + S1x4096x256.size a ≤ S8x4096x256.size a) :
    bM.view.readAt (Elt F) (Rect.unit (s := S8x4096x256) off S1x4096x256.size inb).toLoadRect (bFull m c) = wBlk m c q := by
  subst h
  funext x
  have h0 : (x 0).val < 1 := (x 0).isLt
  exact bFull_of m c ((Rect.unit (s := S8x4096x256) ![q.val, 0, 0] S1x4096x256.size inb).emb x) q x
    (show q.val + 1 * (x 0).val = _ by omega) (show 0 + 1 * (x 1).val = _ by omega) (show 0 + 1 * (x 2).val = _ by omega)

/-- The receive slot of step `t` holds the half block its source sent. -/
theorem read_rFull (c : Dev nD) (t : Fin 16) {off : Fin 3 → ℕ} (h : off = ![(slot t).val, 0, 0]) (inb : ∀ a, off a + S1x256x128.size a ≤ S16x256x128.size a) :
    rM.view.readAt (Elt F) (Rect.unit (s := S16x256x128) off S1x256x128.size inb).toLoadRect (rFull m c) = yPart m (src c t) t := by
  subst h
  funext x
  have h0 : (x 0).val < 1 := (x 0).isLt
  exact rFull_of m c ((Rect.unit (s := S16x256x128) ![(slot t).val, 0, 0] S1x256x128.size inb).emb x) t x
    (show (slot t).val + 1 * (x 0).val = _ by omega) (show 0 + 1 * (x 1).val = _ by omega) (show 0 + 1 * (x 2).val = _ by omega)

/-- The own half is read off the unrounded block. -/
theorem read_yOwn (c : Dev nD) {off : Fin 2 → ℕ} (h : off = ![0, 128 * half c 12]) (inb : ∀ a, off a + S256x128.size a ≤ S256x256.size a) :
    fM.view.readAt (Elt F) (Rect.unit (s := S256x256) off S256x128.size inb).toLoadRect (yOwn m c) = piece m c 12 := by
  subst h
  funext x
  unfold piece
  rw [if_pos rfl]
  refine congrArg (yOwn m c) (funext fun a => ?_)
  match a with
  | ⟨0, _⟩ => exact Fin.ext (show 0 + 1 * (x 0).val = (x 0).val by omega)
  | ⟨1, _⟩ => exact Fin.ext (show 128 * half c 12 + 1 * (x 1).val = 128 * half c 12 + (x 1).val by omega)

omit [FloatOps F] in
/-- The rows of `x` are read whole. -/
theorem read_x (c : Dev nD) (inb : ∀ a, (![0, 0] : Fin 2 → ℕ) a + S256x4096.size a ≤ S256x4096.size a) :
    xM.view.readAt (Elt F) (Rect.unit (s := S256x4096) ![0, 0] S256x4096.size inb).toLoadRect (xs m c) = xs m c := by
  funext i
  refine congrArg (xs m c) (funext fun a => ?_)
  match a with
  | ⟨0, _⟩ => exact Fin.ext (show 0 + 1 * (i 0).val = (i 0).val by omega)
  | ⟨1, _⟩ => exact Fin.ext (show 0 + 1 * (i 1).val = (i 1).val by omega)

/-- What is stored of a half block received: it, widened. -/
theorem piece_eq (c : Dev nD) (t : Fin 16) (h : t ≠ 12) : k0_pay1 (yPart m (src c t) t) = piece m c t := by
  unfold piece; rw [if_neg h]

/-! ### What a store leaves -/

/-- Storing column block `q` fills slot `q` of the product buffer. -/
theorem store_fills (c : Dev nD) (q : Fin 8) (f : Buf (Elt F) ((c : Thread nD τ).loc cc0_scratch2)) :
    ∀ i ∈ ySlot q, (yM.access (yRect q)).write (Elt F) f (yBlk m c q) Finset.univ i = yFull m c i := by
  intro i hi
  have hi' : i ∈ (yM.access (yRect q)).set := by
    show i ∈ ((View.whole cc0_scratch2).slice (yRect q)).set
    rw [View.set_slice_whole]; exact hi
  obtain ⟨x, -, rfl⟩ := Finset.mem_map.mp hi'
  rw [View.write_emb_of_mem _ _ (Finset.mem_univ _)]
  have h0 : (x 0).val < 1 := (x 0).isLt
  exact (yFull_of m c ((yRect q).emb x) q x
    (show q.val + 1 * (x 0).val = _ by omega) (show 0 + 1 * (x 1).val = _ by omega) (show 0 + 1 * (x 2).val = _ by omega)).symm

/-- Storing the unrounded block leaves it alone in its buffer. -/
theorem raw_fills (c : Dev nD) (inb : ∀ a, (![0, 0] : Fin 2 → ℕ) a + S256x256.size a ≤ S256x256.size a) (f : Buf (Elt F) ((c : Thread nD τ).loc cc0_scratch1)) :
    (fM.access (Rect.unit (s := S256x256) ![0, 0] S256x256.size inb)).write (Elt F) f (yOwn m c) Finset.univ = yOwn m c := by
  funext i
  have e : (fM.access (Rect.unit (s := S256x256) ![0, 0] S256x256.size inb)).emb i = i := by
    funext a
    match a with
    | ⟨0, _⟩ => exact Fin.ext (show 0 + 1 * (i 0).val = (i 0).val by omega)
    | ⟨1, _⟩ => exact Fin.ext (show 0 + 1 * (i 1).val = (i 1).val by omega)
  have h := View.write_emb_of_mem (v := fM.access (Rect.unit (s := S256x256) ![0, 0] S256x256.size inb)) (Val := Elt F) f (yOwn m c) (Finset.mem_univ i)
  rwa [e] at h

/-- The rows of the result step `t` fills. -/
def Rows (c : Dev nD) (t : Fin 16) (i : S4096x128.Idx) : Prop := rowDev i = src c t

/-- Storing the piece of step `t` makes the rows of step `t` right and leaves the others. -/
theorem store_piece (c : Dev nD) (t : Fin 16) {off : Fin 2 → ℕ} (h : off = ![256 * (src c t).val, 0])
    (inb : ∀ a, off a + S256x128.size a ≤ S4096x128.size a) (f : (cc0_stg1_0 : Ref sig .tc).ty.Contents (Elt F)) (i : S4096x128.Idx) :
    (Rows c t i → (oM.access (Rect.unit (s := S4096x128) off S256x128.size inb)).write (Elt F) f (piece m c t) Finset.univ i = outFull m c i)
      ∧ (¬ Rows c t i → (oM.access (Rect.unit (s := S4096x128) off S256x128.size inb)).write (Elt F) f (piece m c t) Finset.univ i = f i) := by
  subst h
  have hm : i ∈ (oM.access (Rect.unit (s := S4096x128) ![256 * (src c t).val, 0] S256x128.size inb)).set ↔ Rows c t i := by
    have h1 : (i 1).val < 128 := (i 1).isLt
    show i ∈ ((View.whole cc0_stg1_0).slice (Rect.unit (s := S4096x128) ![256 * (src c t).val, 0] S256x128.size inb)).set ↔ _
    rw [View.set_slice_whole]
    refine (Rect.mem_set_unit (s := S4096x128)).trans ?_
    rw [Fin.forall_fin_succ, Fin.forall_fin_succ]
    unfold Rows
    rw [Fin.ext_iff]
    show ((256 * (src c t).val ≤ (i 0).val ∧ (i 0).val < 256 * (src c t).val + 256) ∧ (0 ≤ (i 1).val ∧ (i 1).val < 0 + 128) ∧ _) ↔ (i 0).val / 256 = (src c t).val
    constructor
    · rintro ⟨h, -⟩; omega
    · intro h; exact ⟨by omega, by omega, fun a => a.elim0⟩
  constructor
  · intro hr
    obtain ⟨x, -, rfl⟩ := Finset.mem_map.mp (hm.mpr hr)
    rw [View.write_emb_of_mem _ _ (Finset.mem_univ _)]
    exact (outFull_of m c ((Rect.unit (s := S4096x128) ![256 * (src c t).val, 0] S256x128.size inb).emb x) t x
      (show 256 * (src c t).val + 1 * (x 0).val = _ by omega) (show 0 + 1 * (x 1).val = _ by omega)).symm
  · intro hr
    exact View.write_of_not_mem _ _ _ fun h => hr (hm.mp h)

/-- Every row is some step's. -/
theorem rows_cover (c : Dev nD) (i : S4096x128.Idx) : ∃ t, Rows c t i :=
  ⟨via c (rowDev i), by unfold Rows; rw [src_via]⟩

end Cert.KernelIdeal.Exchange

end
-- ==== Proof.KernelIdeal.Schedule.lean ====
/-
# The exchange's protocol

Each device has 41 cells: the barrier semaphore; eight copy semaphores, one per column block; sixteen send and sixteen
receive semaphores, one per step (step 12, a device's own half block, uses neither). Every cell has one round.

* Barrier cell of `c`: fifteen units, one per step `t ≠ 12`, paid by `tgt c t`, which hands over its receive slot of
  step `t`: from then on `c` may write there.
* Copy cell `q` of `c`: the copy of column block `q` of `W`; it returns the slot filled and the share of `W` it read.
* Send cell `t` of `c`: the half block sent at step `t` comes back.
* Receive cell `t` of `c`: the receive slot of step `t` comes back filled.

What a device owes: its signals and its sends. Waits go up the levels: copies (0), the barrier (1), receives (2).
-/
module

public import proofs.«01_k».proof.Proof.KernelIdeal.Contents
public import Idealize.ShloMosaic.Lib.ShareLeaves

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's ghost state: duties are named by steps. -/
abbrev UX : Type := URounds (GSem nD τ sig) (Fin 16)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ)

/-! ## The cells -/

abbrev barS : Sem sig := (SemArray.scalar (sig.barrier 0 rfl) : Sems sig S_).sem
def copyS (q : Fin 8) : DmaSem sig := ⟨q.val + 2, by show _ < 42; omega⟩
def sendS (t : Fin 16) : DmaSem sig := ⟨(slot t).val + 10, by show _ < 42; omega⟩
def recvS (t : Fin 16) : DmaSem sig := ⟨(slot t).val + 26, by show _ < 42; omega⟩

abbrev barCell (c : Dev nD) : GSem nD τ sig := ((c : Thread nD τ), .reg barS)
abbrev copyCell (c : Dev nD) (q : Fin 8) : GSem nD τ sig := ((c : Thread nD τ), .dma (copyS q))
abbrev sendCell (c : Dev nD) (t : Fin 16) : GSem nD τ sig := ((c : Thread nD τ), .dma (sendS t))
abbrev recvCell (c : Dev nD) (t : Fin 16) : GSem nD τ sig := ((c : Thread nD τ), .dma (recvS t))

/-- The same cells numbered. -/
def csem (k : Fin 41) : SemLoc sig := match k with
  | ⟨0, _⟩ => .reg barS
  | ⟨n + 1, h⟩ => .dma ⟨n + 2, by show _ < 42; omega⟩
abbrev kcell (ck : Dev nD × Fin 41) : GSem nD τ sig := ((ck.1 : Thread nD τ), csem ck.2)
abbrev kCopy (q : Fin 8) : Fin 41 := ⟨q.val + 1, by omega⟩
abbrev kSend (t : Fin 16) : Fin 41 := ⟨(slot t).val + 9, by omega⟩
abbrev kRecv (t : Fin 16) : Fin 41 := ⟨(slot t).val + 25, by omega⟩

/-- What a copy and what a send credits. -/
abbrev NW : ℕ := (bSlot 0).view.dmaCredit
abbrev NR : ℕ := (rSlot 0).view.dmaCredit
theorem NW_pos : 0 < NW := View.dmaCredit_pos _ (by decide)
theorem NR_pos : 0 < NR := View.dmaCredit_pos _ (by decide)

/-! ## The payloads -/

/-- The share of `W` the copy of column block `q` reads through. -/
def wShare (q : Fin 8) : PosShare TreeShare := ShareLeaves.leaf 3 fullShare q

def wPts (c : Dev nD) (q : Fin 8) (I : Finset S4096x2048.Idx) : sProp 𝕄 :=
  (((c : Thread nD τ).loc main_arg1) ↦[I]{wShare q} wAll m c)
def bPts (c : Dev nD) (q : Fin 8) (f : Buf (Elt F) ((c : Thread nD τ).loc cc0_scratch0)) : sProp 𝕄 :=
  (((c : Thread nD τ).loc cc0_scratch0) ↦[bSet q]{fullShare} f)
def hPts (c : Dev nD) (t : Fin 16) : sProp 𝕄 :=
  (((c : Thread nD τ).loc cc0_scratch2) ↦[yHalfSet c t]{fullShare} yFull m c)
def rPts (c : Dev nD) (t : Fin 16) (f : Buf (Elt F) ((c : Thread nD τ).loc cc0_scratch3)) : sProp 𝕄 :=
  (((c : Thread nD τ).loc cc0_scratch3) ↦[rSet t]{fullShare} f)

omit [FloatOps F] in
instance wPts_storable (c : Dev nD) (q) (I) : BI.Storable (upEmb : UEmb _ 𝕄) (wPts (F := F) m c q I) := by unfold wPts; infer_instance
omit [FloatOps F] in
instance bPts_storable (c : Dev nD) (q) (f) : BI.Storable (upEmb : UEmb _ 𝕄) (bPts (F := F) c q f) := by unfold bPts; infer_instance
instance hPts_storable (c : Dev nD) (t) : BI.Storable (upEmb : UEmb _ 𝕄) (hPts (F := F) m c t) := by unfold hPts; infer_instance
omit [FloatOps F] in
instance rPts_storable (c : Dev nD) (t) (f) : BI.Storable (upEmb : UEmb _ 𝕄) (rPts (F := F) c t f) := by unfold rPts; infer_instance

def barPay (c : Dev nD) (t : Fin 16) : sProp 𝕄 := iprop(∃ f, rPts (tgt c t) t f)
def copyPay (c : Dev nD) (q : Fin 8) : sProp 𝕄 := iprop(bPts c q (bFull m c) ∗ wPts m c q (wSet c q))

/-- What a DMA semaphore of device `c` pays out. -/
def dmaPay (c : Dev nD) (s : DmaSem sig) : sProp 𝕄 :=
  if s.val < 10 then copyPay m c ⟨(s.val - 2) % 8, Nat.mod_lt _ (by decide)⟩
  else if s.val < 26 then hPts m c (unslot ⟨(s.val - 10) % 16, Nat.mod_lt _ (by decide)⟩)
  else rPts c (unslot ⟨(s.val - 26) % 16, Nat.mod_lt _ (by decide)⟩) (rFull m c)

def dutiesOf : SemLoc sig → Finset (Fin 16)
  | .reg _ => Finset.univ.erase 12
  | .dma s => if s.val = 10 ∨ s.val = 26 then ∅ else {0}

/-- The protocol. -/
def Rd : Rounds.Schedule (GSem nD τ sig) (Fin 16) 𝕄 where
  duties g r := if r = 0 then dutiesOf g.2 else ∅
  unitless _ := False
  amount g _ _ := match g.2 with
    | .reg _ => 1
    | .dma s => if s.val < 10 then NW else NR
  payload g _ d := match g.2 with
    | .reg _ => barPay g.1.1 d
    | .dma s => dmaPay m g.1.1 s
  amount_pos g _ _ _ := by
    rcases g with ⟨_, _ | s⟩
    · exact Nat.one_pos
    · show 0 < if s.val < 10 then NW else NR
      split
      · exact NW_pos
      · exact NR_pos

instance Rd_payload_storable (g : GSem nD τ sig) (r : ℕ) (d : Fin 16) : BI.Storable (upEmb : UEmb _ 𝕄) ((Rd (F := F) m).payload g r d) := by
  rcases g with ⟨c, _ | s⟩
  · show BI.Storable upEmb (barPay c.1 d)
    unfold barPay; infer_instance
  · show BI.Storable upEmb (dmaPay m c.1 s)
    unfold dmaPay copyPay
    (repeat' split) <;> infer_instance

section Sched
variable (c : Dev nD) (q : Fin 8) (t : Fin 16)

theorem duties_bar : (Rd (F := F) m).duties (barCell c) 0 = Finset.univ.erase 12 := rfl
theorem duties_copy : (Rd (F := F) m).duties (copyCell c q) 0 = {0} := by
  show (if q.val + 2 = 10 ∨ q.val + 2 = 26 then ∅ else {0}) = _
  exact if_neg (by omega)
theorem slot_ne (h : t ≠ 12) : (slot t).val ≠ 0 := by revert t; decide
theorem duties_send (h : t ≠ 12) : (Rd (F := F) m).duties (sendCell c t) 0 = {0} := by
  have := slot_ne t h
  show (if (slot t).val + 10 = 10 ∨ (slot t).val + 10 = 26 then ∅ else {0}) = _
  exact if_neg (by omega)
theorem duties_recv (h : t ≠ 12) : (Rd (F := F) m).duties (recvCell c t) 0 = {0} := by
  have := slot_ne t h
  show (if (slot t).val + 26 = 10 ∨ (slot t).val + 26 = 26 then ∅ else {0}) = _
  exact if_neg (by omega)
theorem duties_later (g : GSem nD τ sig) : ∀ r, 0 + 1 ≤ r → (Rd (F := F) m).duties g r = ∅ := fun r hr => if_neg (by omega)
theorem duties_own (g : GSem nD τ sig) (hg : dutiesOf g.2 = ∅) : ∀ r, 0 ≤ r → (Rd (F := F) m).duties g r = ∅ := fun r _ => by
  show (if r = 0 then dutiesOf g.2 else ∅) = ∅
  rw [hg, ite_self]

theorem amount_bar (d) : (Rd (F := F) m).amount (barCell c) 0 d = 1 := rfl
theorem amount_copy (d) : (Rd (F := F) m).amount (copyCell c q) 0 d = NW := if_pos (show q.val + 2 < 10 by omega)
theorem amount_send (d) : (Rd (F := F) m).amount (sendCell c t) 0 d = NR := by
  show (if (slot t).val + 10 < 10 then NW else NR) = NR
  exact if_neg (by omega)
theorem amount_recv (d) : (Rd (F := F) m).amount (recvCell c t) 0 d = NR := by
  show (if (slot t).val + 26 < 10 then NW else NR) = NR
  exact if_neg (by omega)

theorem expect_bar : (Rd (F := F) m).expect (barCell c) 0 = 15 := by
  unfold Schedule.expect Schedule.amountOf
  rw [Finset.sum_congr rfl fun d _ => amount_bar m c d, duties_bar]
  decide
theorem expect_copy : (Rd (F := F) m).expect (copyCell c q) 0 = NW := by
  unfold Schedule.expect Schedule.amountOf; rw [duties_copy, Finset.sum_singleton, amount_copy]
theorem expect_send (h : t ≠ 12) : (Rd (F := F) m).expect (sendCell c t) 0 = NR := by
  unfold Schedule.expect Schedule.amountOf; rw [duties_send m c t h, Finset.sum_singleton, amount_send]
theorem expect_recv (h : t ≠ 12) : (Rd (F := F) m).expect (recvCell c t) 0 = NR := by
  unfold Schedule.expect Schedule.amountOf; rw [duties_recv m c t h, Finset.sum_singleton, amount_recv]

theorem payload_bar (d) : (Rd (F := F) m).payload (barCell c) 0 d = barPay c d := rfl
theorem payload_copy (d) : (Rd (F := F) m).payload (copyCell c q) 0 d = copyPay m c q := by
  show (if q.val + 2 < 10 then copyPay m c ⟨(q.val + 2 - 2) % 8, _⟩ else _) = _
  rw [if_pos (by omega)]
  exact congrArg (copyPay m c) (Fin.ext (show (q.val + 2 - 2) % 8 = q.val by omega))
theorem payload_send (d) : (Rd (F := F) m).payload (sendCell c t) 0 d = hPts m c t := by
  show dmaPay m c (sendS t) = _
  unfold dmaPay
  rw [if_neg (show ¬ (sendS t).val < 10 from show ¬ (slot t).val + 10 < 10 by omega), if_pos (show (sendS t).val < 26 from show (slot t).val + 10 < 26 by omega)]
  refine congrArg (hPts m c) (Eq.trans (congrArg unslot (Fin.ext ?_)) (unslot_slot t))
  show ((slot t).val + 10 - 10) % 16 = (slot t).val
  omega
theorem payload_recv (d) : (Rd (F := F) m).payload (recvCell c t) 0 d = rPts c t (rFull m c) := by
  show dmaPay m c (recvS t) = _
  unfold dmaPay
  rw [if_neg (show ¬ (recvS t).val < 10 from show ¬ (slot t).val + 26 < 10 by omega), if_neg (show ¬ (recvS t).val < 26 from show ¬ (slot t).val + 26 < 26 by omega)]
  refine congrArg (fun t => rPts c t (rFull m c)) (Eq.trans (congrArg unslot (Fin.ext ?_)) (unslot_slot t))
  show ((slot t).val + 26 - 26) % 16 = (slot t).val
  omega

/-- What a wait for a cell's whole round collects. -/
theorem rest_bar : bigSep ((Rd (F := F) m).duties (barCell c) 0 \ ∅) (fun d => (Rd (F := F) m).payload (barCell c) 0 d)
    = bigSep (Finset.univ.erase 12) fun t => barPay (F := F) c t := by
  rw [Finset.sdiff_empty, duties_bar]; rfl
theorem rest_copy : bigSep ((Rd (F := F) m).duties (copyCell c q) 0 \ ∅) (fun d => (Rd (F := F) m).payload (copyCell c q) 0 d) = copyPay m c q := by
  rw [Finset.sdiff_empty, duties_copy, bigSep_singleton, payload_copy]
theorem rest_send (h : t ≠ 12) : bigSep ((Rd (F := F) m).duties (sendCell c t) 0 \ ∅) (fun d => (Rd (F := F) m).payload (sendCell c t) 0 d) = hPts m c t := by
  rw [Finset.sdiff_empty, duties_send m c t h, bigSep_singleton, payload_send]
theorem rest_recv (h : t ≠ 12) :
    bigSep ((Rd (F := F) m).duties (recvCell c t) 0 \ ∅) (fun d => (Rd (F := F) m).payload (recvCell c t) 0 d) = rPts c t (rFull m c) := by
  rw [Finset.sdiff_empty, duties_recv m c t h, bigSep_singleton, payload_recv]

end Sched

/-! ## What a device owes -/

/-- After `j` signals: those to the devices further round the ring. -/
def owedBar (c : Dev nD) (j : ℕ) : CellTallies nD τ sig Unit :=
  ∑ t : Fin 16, if j < rank c t then tallyAt (barCell (src c t)) () 1 else 0
/-- Before step `s`: the sends from there on. -/
def owedRecv (c : Dev nD) (s : ℕ) : CellTallies nD τ sig Unit :=
  ∑ t : Fin 16, if t ≠ 12 ∧ s ≤ t.val then tallyAt (recvCell (tgt c t) t) () NR else 0
def owed (c : Dev nD) (j s : ℕ) : CellTallies nD τ sig Unit := owedBar c j + owedRecv c s

/-- One summand taken out of a sum. -/
theorem sum_peel {A : Type} [AddCommMonoid A] (f g : Fin 16 → A) (t : Fin 16) (hg : g t = 0) (h : ∀ u, u ≠ t → f u = g u) :
    ∑ u, f u = ∑ u, g u + f t := by
  rw [← Finset.sum_erase_add Finset.univ f (Finset.mem_univ t), ← Finset.sum_erase_add Finset.univ g (Finset.mem_univ t), hg, add_zero]
  exact congrArg (· + f t) (Finset.sum_congr rfl fun u hu => h u (Finset.ne_of_mem_erase hu))

/-- The step after `t`, 12 left out. -/
def after (t : Fin 16) : ℕ := if t.val = 11 then 13 else t.val + 1

theorem after_iff (t u : Fin 16) (h : u ≠ 12) : u.val < after t ↔ (u.val < t.val ∨ u = t) := by revert t u; decide

theorem owed_signal (c : Dev nD) (t : Fin 16) (j j' s : ℕ) (h1 : j < rank c t) (h2 : j' = rank c t) (h3 : j' = j + 1) :
    owed c j s = owed c j' s + tallyAt (barCell (src c t)) () 1 := by
  unfold owed owedBar
  rw [sum_peel _ (fun u => if j' < rank c u then tallyAt (barCell (src c u)) () 1 else 0) t (if_neg (by omega)) (fun u hu => by
    have : rank c u ≠ rank c t := fun e => hu (rank_inj c u t e)
    by_cases hj : j < rank c u
    · rw [if_pos hj, if_pos (by omega)]
    · rw [if_neg hj, if_neg (by omega)]), if_pos h1, add_right_comm]

theorem owed_send (c : Dev nD) (t : Fin 16) (j : ℕ) (ht : t ≠ 12) :
    owed c j t.val = owed c j (after t) + tallyAt (recvCell (tgt c t) t) () NR := by
  unfold owed owedRecv
  rw [sum_peel _ (fun u => if u ≠ 12 ∧ after t ≤ u.val then tallyAt (recvCell (tgt c u) u) () NR else 0) t
    (if_neg fun h => by have := (after_iff t t ht).mpr (Or.inr rfl); omega) (fun u hu => by
      by_cases hu12 : u = 12
      · rw [if_neg fun h => h.1 hu12, if_neg fun h => h.1 hu12]
      · have := after_iff t u hu12
        by_cases hj : t.val ≤ u.val
        · rw [if_pos ⟨hu12, hj⟩, if_pos ⟨hu12, by by_contra hn; rcases this.mp (by omega) with h | h; omega; exact hu h⟩]
        · rw [if_neg fun h => hj h.2, if_neg fun h => by have := this.mpr (Or.inl (by omega)); omega]), if_pos ⟨ht, le_rfl⟩, add_assoc]

theorem owed_done (c : Dev nD) : owed c 15 16 = 0 := by
  unfold owed owedBar owedRecv
  rw [Finset.sum_eq_zero fun t _ => if_neg (by have := rank_le c t; omega), Finset.sum_eq_zero fun t _ => if_neg (by omega), add_zero]

/-- What is owed, read: a signal not given yet or a send not made yet. -/
theorem owed_pos {c : Dev nD} {j s : ℕ} {g : GSem nD τ sig} {u : Unit} (h : 0 < owed c j s g u) :
    (∃ t, j < rank c t ∧ g = barCell (src c t)) ∨ ∃ t, g = recvCell (tgt c t) t := by
  by_contra hn
  rw [not_or, not_exists, not_exists] at hn
  refine absurd h (Nat.not_lt.mpr (Nat.le_of_eq ?_))
  unfold owed owedBar owedRecv
  rw [Pi.add_apply, Finsupp.add_apply, Finset.sum_apply, Finset.sum_apply, Finsupp.finset_sum_apply, Finsupp.finset_sum_apply,
    Finset.sum_eq_zero (s := Finset.univ) (f := fun t => (if j < rank c t then tallyAt (barCell (src c t)) () 1 else 0 : CellTallies nD τ sig Unit) g u) fun t _ => ?_, Finset.sum_eq_zero (s := Finset.univ) fun t _ => ?_]
  · rfl
  · split
    · rw [tallyAt_apply, if_neg fun h' => hn.2 t h'.1]
    · rfl
  · split
    · next hj => rw [tallyAt_apply, if_neg fun h' => hn.1 t ⟨hj, h'.1⟩]
    · rfl

/-! ## The levels -/

def L (g : GSem nD τ sig) : Finset Unit := if g.1.2 = .tc then {()} else ∅
def lv (g : GSem nD τ sig) (_ : Unit) : ℕ := match g.2 with
  | .reg _ => 1
  | .dma s => if s.val < 26 then 0 else 2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (t : Fin 16) (u : Unit) : lv (recvCell c t) u = 2 := by
  show (if (slot t).val + 26 < 26 then 0 else 2) = 2
  exact if_neg (by omega)

/-- A device may wait for anything below what it still owes. -/
theorem mayWait_below (c : Dev nD) (sm : SemLoc sig) (n : ℕ) (hsm : lv ((c : Thread nD τ), sm) () ≤ n) (j s : ℕ)
    (hbar : n < 1 ∨ 15 ≤ j) (hn : n < 2) :
    (levAts L lv : sProp 𝕄) ⊢ MayWait (c : Thread nD τ) sm () (owed c j s) := by
  refine MayOwe.of_cut (L := L) (lev := lv) n (fun p hp => by rw [Finset.mem_singleton.mp hp, L_tc]; exact Finset.mem_singleton_self _)
    (fun g u hg => by rcases owed_pos hg with ⟨t, _, rfl⟩ | ⟨t, rfl⟩ <;> exact Finset.mem_singleton_self _)
    (fun p hp => by rw [Finset.mem_singleton.mp hp]; exact hsm)
    (fun g u hg => by
      rcases owed_pos hg with ⟨t, ht, rfl⟩ | ⟨t, rfl⟩
      · have := rank_le c t
        show n < 1
        omega
      · rw [lv_recv]; exact hn)

theorem mayWait_done (c : Dev nD) (sm : SemLoc sig) : (emp : sProp 𝕄) ⊢ MayWait (c : Thread nD τ) sm () (owed c 15 16) := by
  rw [owed_done, MayWait_zero]; exact Entails.refl _

end Cert.KernelIdeal.Exchange

end
-- ==== Proof.KernelIdeal.State.lean ====
/-
# Where a device stands

The state of a device's body between two of its operations, as one assertion `St` over counters: how many copies are
started and waited for, how many signals given, whether the barrier is passed, how many blocks stored, how far the
sends are, and so on. Every buffer, semaphore and ghost token is in one family, whose members change with the
counters. `fam` takes a member out of its family and puts its next state back.
-/
module

public import proofs.«01_k».proof.Proof.KernelIdeal.Schedule

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families -/

omit [FloatOps F] in
/-- A member out of its family, and back in its next state. -/
theorem fam {I : Type} [DecidableEq I] (S : Finset I) (Φ Ψ : I → sProp 𝕄) (i : I) (hi : i ∈ S) (h : ∀ j ∈ S, j ≠ i → Φ j = Ψ j) :
    bigSep S Φ ⊢ iprop(Φ i ∗ (Ψ i -∗ bigSep S Ψ)) := by
  rw [BI.bigSep_erase hi, BI.bigSep_erase (Φ := Ψ) hi,
    bigSep_congr (s := S.erase i) fun j hj => h j (Finset.mem_of_mem_erase hj) (Finset.ne_of_mem_erase hj)]
  refine (show iprop(Φ i ∗ bigSep (S.erase i) Ψ) ⊢ iprop(Φ i ∗ (Ψ i -∗ (Ψ i ∗ bigSep (S.erase i) Ψ))) from ?_)
  iintro ⟨H, Hr⟩
  isplitl [H]; · iexact H
  iintro H
  isplitl [H] <;> iassumption

omit [FloatOps F] in
/-- Two members put in where there was nothing. -/
theorem fam_put {I : Type} [DecidableEq I] (S : Finset I) (Φ Ψ : I → sProp 𝕄) (i j : I) (hi : i ∈ S) (hj : j ∈ S) (hij : i ≠ j)
    (h : ∀ k ∈ S, k ≠ i → k ≠ j → Φ k = Ψ k) (ei : Φ i = iprop(emp)) (ej : Φ j = iprop(emp)) :
    iprop(bigSep S Φ ∗ Ψ i ∗ Ψ j) ⊢ bigSep S Ψ := by
  have hj' : j ∈ S.erase i := Finset.mem_erase.mpr ⟨hij.symm, hj⟩
  rw [BI.bigSep_erase hi, BI.bigSep_erase (Φ := Φ) hj', BI.bigSep_erase (Φ := Ψ) hi, BI.bigSep_erase (Φ := Ψ) hj', ei, ej,
    bigSep_congr (s := (S.erase i).erase j) fun k hk => h k (Finset.mem_of_mem_erase (Finset.mem_of_mem_erase hk))
      (Finset.ne_of_mem_erase (Finset.mem_of_mem_erase hk)) (Finset.ne_of_mem_erase hk)]
  refine (show iprop((emp ∗ emp ∗ bigSep ((S.erase i).erase j) Ψ) ∗ Ψ i ∗ Ψ j) ⊢ iprop(Ψ i ∗ Ψ j ∗ bigSep ((S.erase i).erase j) Ψ) from ?_)
  iintro ⟨⟨-, -, H⟩, Hi, Hj⟩
  isplitl [Hi]; · iexact Hi
  isplitl [Hj] <;> iassumption

/-! ## The records every device keeps -/

/-- Every cell's protocol, under the names `K`, and that its only round is open. -/
def Recs (K : Dev nD × Fin 41 → ℕ) : sProp 𝕄 :=
  iprop((bigSep Finset.univ fun ck : Dev nD × Fin 41 => cellInv EX (Rd m) (K ck) (kcell ck))
    ∗ bigSep Finset.univ fun ck : Dev nD × Fin 41 => reached EX (kcell ck) 0)

instance Recs_persistent (K : Dev nD × Fin 41 → ℕ) : BI.Persistent (Recs m K) := by unfold Recs; infer_instance

theorem recs_inv (K : Dev nD × Fin 41 → ℕ) (c : Dev nD) (k : Fin 41) (sm : SemLoc sig) (h : csem k = sm) :
    Recs m K ⊢ cellInv EX (Rd m) (K (c, k)) ((c : Thread nD τ), sm) := by
  subst h
  unfold Recs
  iintro ⟨H, -⟩
  iapply (bigSep_elim (Finset.mem_univ (c, k)) : _ ⊢ cellInv EX (Rd m) (K (c, k)) (kcell (c, k))) $$ H
theorem recs_reached (K : Dev nD × Fin 41 → ℕ) (c : Dev nD) (k : Fin 41) (sm : SemLoc sig) (h : csem k = sm) :
    Recs m K ⊢ (reached EX ((c : Thread nD τ), sm) 0 : sProp 𝕄) := by
  subst h
  unfold Recs
  iintro ⟨-, H⟩
  iapply (bigSep_elim (Finset.mem_univ (c, k)) : _ ⊢ (reached EX (kcell (c, k)) 0 : sProp 𝕄)) $$ H

/-! ## The parts of the state -/

section Parts
variable (c : Dev nD)

/-- The rows of `x`. -/
def XPart : sProp 𝕄 := (((c : Thread nD τ).loc cc0_stg0_0) ↦{fullShare} xs m c)

/-- Column block `q`: not started, under way, or copied and its cell closed. -/
def copyAt (i w : ℕ) (q : Fin 8) : sProp 𝕄 :=
  if q.val < w then iprop(bPts c q (bFull m c) ∗ wPts m c q Finset.univ ∗ semVal (copyCell c q) 0)
  else if q.val < i then iprop(cred (tallyAt (copyCell c q) () NW) ∗ atPos EX (copyCell c q) 0 ∅ 0 ∗ wPts m c q (Finset.univ \ wSet c q))
  else iprop((∃ f, bPts c q f) ∗ wPts m c q Finset.univ ∗ dutyTok EX (copyCell c q) 0 0 ∗ atPos EX (copyCell c q) 0 ∅ 0)
def Copies (i w : ℕ) : sProp 𝕄 := bigSep Finset.univ (copyAt m c i w)

/-- The signal for step `t`, while not given: its token and the receive slot it hands over. -/
def signalAt (j : ℕ) (t : Fin 16) : sProp 𝕄 :=
  if j < rank c t then iprop(dutyTok EX (barCell (src c t)) 0 t ∗ ∃ f, rPts c t f) else iprop(emp)
def Signals (j : ℕ) : sProp 𝕄 := bigSep Finset.univ (signalAt (F := F) c j)

/-- What is owed after `j` signals and before step `s`'s send. -/
def Owes (j s : ℕ) : sProp 𝕄 := iprop(∃ W, owes (c : Thread nD τ) (owed c j s) W)

/-- The barrier: to be waited for; then the targets' slots, until they are sent to. -/
def slotAt (s : ℕ) (t : Fin 16) : sProp 𝕄 := if s ≤ t.val then barPay c t else iprop(emp)
def Bar (b : Bool) (s : ℕ) : sProp 𝕄 :=
  if b then iprop(semVal (barCell c) 0 ∗ bigSep (Finset.univ.erase 12) (slotAt (F := F) c s))
  else iprop(cred (tallyAt (barCell c) () 15) ∗ atPos EX (barCell c) 0 ∅ 0)

theorem Bar_before (s : ℕ) : Bar (F := F) c false s = iprop(cred (tallyAt (barCell c) () 15) ∗ atPos EX (barCell c) 0 ∅ 0) := if_neg Bool.false_ne_true
theorem Bar_after (s : ℕ) : Bar (F := F) c true s = iprop(semVal (barCell c) 0 ∗ bigSep (Finset.univ.erase 12) (slotAt (F := F) c s)) := if_pos rfl

/-- Step `t`'s send: not made, under way, or finished, its cell closed and the half block back. -/
def sendAt (s e : ℕ) (t : Fin 16) : sProp 𝕄 :=
  if t.val < e then iprop(hPts m c t ∗ semVal (sendCell c t) 0)
  else if t.val < s then iprop(cred (tallyAt (sendCell c t) () NR) ∗ atPos EX (sendCell c t) 0 ∅ 0)
  else iprop(dutyTok EX (sendCell c t) 0 0 ∗ dutyTok EX (recvCell (tgt c t) t) 0 0 ∗ atPos EX (sendCell c t) 0 ∅ 0)
def Sends (s e : ℕ) : sProp 𝕄 := bigSep (Finset.univ.erase 12) (sendAt m c s e)

/-- Step `t`'s receive: to be waited for, or there and its cell closed. -/
def recvAt (e : ℕ) (t : Fin 16) : sProp 𝕄 :=
  if t.val < e then iprop(rPts c t (rFull m c) ∗ semVal (recvCell c t) 0)
  else iprop(cred (tallyAt (recvCell c t) () NR) ∗ atPos EX (recvCell c t) 0 ∅ 0)
def Recvs (e : ℕ) : sProp 𝕄 := bigSep (Finset.univ.erase 12) (recvAt m c e)

/-- The product buffer: slots not stored yet; -/
def blockAt (y : ℕ) (q : Fin 8) : sProp 𝕄 :=
  if q.val < y then iprop(emp)
  else iprop(∃ f : Buf (Elt F) ((c : Thread nD τ).loc cc0_scratch2), ((c : Thread nD τ).loc cc0_scratch2) ↦[ySlot q]{fullShare} f)
def Blocks (y : ℕ) : sProp 𝕄 := bigSep Finset.univ (blockAt (F := F) c y)
/-- half blocks stored and not sent yet. -/
def halfAt (y s : ℕ) (t : Fin 16) : sProp 𝕄 :=
  if t.val / 2 < y ∧ (s ≤ t.val ∨ t = 12) then hPts m c t else iprop(emp)
def Halves (y s : ℕ) : sProp 𝕄 := bigSep Finset.univ (halfAt m c y s)

/-- The unrounded block: in its buffer once it is stored. -/
def Raw (b : Bool) : sProp 𝕄 :=
  iprop(∃ f : Buf (Elt F) ((c : Thread nD τ).loc cc0_scratch1), ⌜b = true → f = yOwn m c⌝ ∗ (((c : Thread nD τ).loc cc0_scratch1) ↦{fullShare} f))

/-- The result, right on the rows of the steps done. -/
def Done (o : Bool) (e : ℕ) (t : Fin 16) : Prop := if t = 12 then o = true else t.val < e
theorem done_next (t : Fin 16) (ht : t ≠ 12) : ∀ u, Done true (after t) u → Done true t.val u ∨ u = t := by
  intro u hu
  unfold Done at hu ⊢
  split_ifs at hu ⊢ with h
  · exact Or.inl rfl
  · exact (after_iff t u h).mp hu
theorem done_own (e : ℕ) : ∀ u, Done true e u → Done false e u ∨ u = 12 := by
  intro u hu
  unfold Done at hu ⊢
  split_ifs at hu ⊢ with h
  · exact Or.inr h
  · exact Or.inl hu
def Out (o : Bool) (e : ℕ) : sProp 𝕄 :=
  iprop(∃ f : (cc0_stg1_0 : Ref sig .tc).ty.Contents (Elt F), ⌜∀ t, Done o e t → ∀ i, Rows c t i → f i = outFull m c i⌝
    ∗ (((c : Thread nD τ).loc cc0_stg1_0) ↦{fullShare} f))

/-- Step 12's slot and semaphores, which nothing uses. -/
def Fixed : sProp 𝕄 := iprop((∃ f, rPts (F := F) c 12 f) ∗ semVal (sendCell c 12) 0 ∗ semVal (recvCell c 12) 0)

/-- The state: copies started `i` and waited for `w`; signals `j`; the barrier passed `b`; sends `s`; blocks stored `y`; the unrounded
    block stored `r`; the own rows stored `o`; sends waited for `e`, receives waited for `e'`, rows received stored `e''`. -/
def St (K : Dev nD × Fin 41 → ℕ) (i w j : ℕ) (b : Bool) (s y : ℕ) (r o : Bool) (e e' e'' : ℕ) : sProp 𝕄 :=
  iprop(Recs m K ∗ levAts L lv ∗ XPart m c ∗ Copies m c i w ∗ Signals (F := F) c j ∗ Owes (F := F) c j s ∗ Bar (F := F) c b s ∗ Sends m c s e
    ∗ Recvs m c e' ∗ Blocks (F := F) c y ∗ Halves m c y s ∗ Raw m c r ∗ Out m c o e'' ∗ Fixed (F := F) c)

end Parts

/-- The weakest precondition of a piece of device `c`'s body. -/
abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-! ## Moves: a member out of its family, and what puts its next state back -/

section Moves
variable (c : Dev nD)

theorem copies_start (i w : ℕ) (q : Fin 8) (hi : i = q.val) (hw : w ≤ q.val) :
    Copies m c i w ⊢ iprop(((∃ f, bPts c q f) ∗ wPts m c q Finset.univ ∗ dutyTok EX (copyCell c q) 0 0 ∗ atPos EX (copyCell c q) 0 ∅ 0)
      ∗ ((cred (tallyAt (copyCell c q) () NW) ∗ atPos EX (copyCell c q) 0 ∅ 0 ∗ wPts m c q (Finset.univ \ wSet c q)) -∗ Copies m c (q.val + 1) w)) := by
  have h := fam Finset.univ (copyAt m c i w) (copyAt m c (q.val + 1) w) q (Finset.mem_univ _) (fun q' _ hq => by
    have := fun e => hq (Fin.ext e)
    unfold copyAt
    split_ifs <;> first | rfl | omega)
  rwa [show copyAt m c i w q = _ from (if_neg (by omega)).trans (if_neg (by omega)),
    show copyAt m c (q.val + 1) w q = _ from (if_neg (by omega)).trans (if_pos (by omega))] at h

theorem copies_wait (i w : ℕ) (q : Fin 8) (hi : q.val < i) (hw : w = q.val) :
    Copies m c i w ⊢ iprop((cred (tallyAt (copyCell c q) () NW) ∗ atPos EX (copyCell c q) 0 ∅ 0 ∗ wPts m c q (Finset.univ \ wSet c q))
      ∗ ((bPts c q (bFull m c) ∗ wPts m c q Finset.univ ∗ semVal (copyCell c q) 0) -∗ Copies m c i (q.val + 1))) := by
  have h := fam Finset.univ (copyAt m c i w) (copyAt m c i (q.val + 1)) q (Finset.mem_univ _) (fun q' _ hq => by
    have := fun e => hq (Fin.ext e)
    unfold copyAt
    split_ifs <;> first | rfl | omega)
  rwa [show copyAt m c i w q = _ from (if_neg (by omega)).trans (if_pos (by omega)),
    show copyAt m c i (q.val + 1) q = _ from if_pos (by omega)] at h

theorem copies_read (i w : ℕ) (q : Fin 8) (hw : q.val < w) :
    Copies m c i w ⊢ iprop((bPts c q (bFull m c) ∗ wPts m c q Finset.univ ∗ semVal (copyCell c q) 0)
      ∗ ((bPts c q (bFull m c) ∗ wPts m c q Finset.univ ∗ semVal (copyCell c q) 0) -∗ Copies m c i w)) := by
  have h := fam Finset.univ (copyAt m c i w) (copyAt m c i w) q (Finset.mem_univ _) (fun _ _ _ => rfl)
  rwa [show copyAt m c i w q = _ from if_pos hw] at h

theorem signals_give (j j' : ℕ) (t : Fin 16) (hj : j' = rank c t) (hj' : j' = j + 1) :
    Signals (F := F) c j ⊢ iprop((dutyTok EX (barCell (src c t)) 0 t ∗ ∃ f, rPts c t f) ∗ (emp -∗ Signals (F := F) c j')) := by
  have h := fam Finset.univ (signalAt (F := F) c j) (signalAt (F := F) c j') t (Finset.mem_univ _) (fun t' _ ht => by
    have : rank c t' ≠ rank c t := fun e => ht (rank_inj c t' t e)
    unfold signalAt
    split_ifs <;> first | rfl | omega)
  rwa [show signalAt (F := F) c j t = _ from if_pos (by omega), show signalAt (F := F) c j' t = _ from if_neg (by omega)] at h

theorem slots_take (s : ℕ) (t : Fin 16) (hs : s = t.val) (ht : t ≠ 12) :
    bigSep (Finset.univ.erase 12) (slotAt (F := F) c s) ⊢ iprop(barPay c t ∗ (emp -∗ bigSep (Finset.univ.erase 12) (slotAt (F := F) c (after t)))) := by
  have h := fam (Finset.univ.erase 12) (slotAt (F := F) c s) (slotAt (F := F) c (after t)) t (Finset.mem_erase.mpr ⟨ht, Finset.mem_univ _⟩) (fun t' h12 ht' => by
    have := fun e => ht' (Fin.ext e)
    have := after_iff t t' (Finset.ne_of_mem_erase h12)
    unfold slotAt
    split_ifs <;> first | rfl | omega)
  have := (after_iff t t ht).mpr (Or.inr rfl)
  rwa [show slotAt (F := F) c s t = _ from if_pos (by omega), show slotAt (F := F) c (after t) t = _ from if_neg (by omega)] at h

theorem sends_start (s e : ℕ) (t : Fin 16) (hs : s = t.val) (he : e ≤ t.val) (ht : t ≠ 12) :
    Sends m c s e ⊢ iprop((dutyTok EX (sendCell c t) 0 0 ∗ dutyTok EX (recvCell (tgt c t) t) 0 0 ∗ atPos EX (sendCell c t) 0 ∅ 0)
      ∗ ((cred (tallyAt (sendCell c t) () NR) ∗ atPos EX (sendCell c t) 0 ∅ 0) -∗ Sends m c (after t) e)) := by
  have h := fam (Finset.univ.erase 12) (sendAt m c s e) (sendAt m c (after t) e) t (Finset.mem_erase.mpr ⟨ht, Finset.mem_univ _⟩) (fun t' h12 ht' => by
    have := fun e => ht' (Fin.ext e)
    have := after_iff t t' (Finset.ne_of_mem_erase h12)
    unfold sendAt
    split_ifs <;> first | rfl | omega)
  have := (after_iff t t ht).mpr (Or.inr rfl)
  rwa [show sendAt m c s e t = _ from (if_neg (by omega)).trans (if_neg (by omega)), show sendAt m c (after t) e t = _ from (if_neg (by omega)).trans (if_pos (by omega))] at h

theorem sends_wait (s e : ℕ) (t : Fin 16) (hs : t.val < s) (he : e = t.val) (ht : t ≠ 12) :
    Sends m c s e ⊢ iprop((cred (tallyAt (sendCell c t) () NR) ∗ atPos EX (sendCell c t) 0 ∅ 0)
      ∗ ((hPts m c t ∗ semVal (sendCell c t) 0) -∗ Sends m c s (after t))) := by
  have h := fam (Finset.univ.erase 12) (sendAt m c s e) (sendAt m c s (after t)) t (Finset.mem_erase.mpr ⟨ht, Finset.mem_univ _⟩) (fun t' h12 ht' => by
    have := fun e => ht' (Fin.ext e)
    have := after_iff t t' (Finset.ne_of_mem_erase h12)
    unfold sendAt
    split_ifs <;> first | rfl | omega)
  have := (after_iff t t ht).mpr (Or.inr rfl)
  rwa [show sendAt m c s e t = _ from (if_neg (by omega)).trans (if_pos (by omega)), show sendAt m c s (after t) t = _ from if_pos (by omega)] at h

theorem recvs_wait (e : ℕ) (t : Fin 16) (he : e = t.val) (ht : t ≠ 12) :
    Recvs m c e ⊢ iprop((cred (tallyAt (recvCell c t) () NR) ∗ atPos EX (recvCell c t) 0 ∅ 0)
      ∗ ((rPts c t (rFull m c) ∗ semVal (recvCell c t) 0) -∗ Recvs m c (after t))) := by
  have h := fam (Finset.univ.erase 12) (recvAt m c e) (recvAt m c (after t)) t (Finset.mem_erase.mpr ⟨ht, Finset.mem_univ _⟩) (fun t' h12 ht' => by
    have := fun e => ht' (Fin.ext e)
    have := after_iff t t' (Finset.ne_of_mem_erase h12)
    unfold recvAt
    split_ifs <;> first | rfl | omega)
  have := (after_iff t t ht).mpr (Or.inr rfl)
  rwa [show recvAt m c e t = _ from if_neg (by omega), show recvAt m c (after t) t = _ from if_pos (by omega)] at h

theorem recvs_read (e : ℕ) (t : Fin 16) (he : t.val < e) (ht : t ≠ 12) :
    Recvs m c e ⊢ iprop((rPts c t (rFull m c) ∗ semVal (recvCell c t) 0) ∗ ((rPts c t (rFull m c) ∗ semVal (recvCell c t) 0) -∗ Recvs m c e)) := by
  have h := fam (Finset.univ.erase 12) (recvAt m c e) (recvAt m c e) t (Finset.mem_erase.mpr ⟨ht, Finset.mem_univ _⟩) (fun _ _ _ => rfl)
  rwa [show recvAt m c e t = _ from if_pos he] at h

theorem blocks_read (y : ℕ) (q : Fin 8) (hy : y = q.val) :
    Blocks (F := F) c y ⊢ iprop((∃ f : Buf (Elt F) ((c : Thread nD τ).loc cc0_scratch2), ((c : Thread nD τ).loc cc0_scratch2) ↦[ySlot q]{fullShare} f)
      ∗ ((∃ f : Buf (Elt F) ((c : Thread nD τ).loc cc0_scratch2), ((c : Thread nD τ).loc cc0_scratch2) ↦[ySlot q]{fullShare} f) -∗ Blocks (F := F) c y)) := by
  have h := fam Finset.univ (blockAt (F := F) c y) (blockAt (F := F) c y) q (Finset.mem_univ _) (fun _ _ _ => rfl)
  rwa [show blockAt (F := F) c y q = _ from if_neg (by omega)] at h

theorem blocks_store (y : ℕ) (q : Fin 8) (hy : y = q.val) :
    Blocks (F := F) c y ⊢ iprop((∃ f : Buf (Elt F) ((c : Thread nD τ).loc cc0_scratch2), ((c : Thread nD τ).loc cc0_scratch2) ↦[ySlot q]{fullShare} f)
      ∗ (emp -∗ Blocks (F := F) c (q.val + 1))) := by
  have h := fam Finset.univ (blockAt (F := F) c y) (blockAt (F := F) c (q.val + 1)) q (Finset.mem_univ _) (fun q' _ hq => by
    have := fun e => hq (Fin.ext e)
    unfold blockAt
    split_ifs <;> first | rfl | omega)
  rwa [show blockAt (F := F) c y q = _ from if_neg (by omega), show blockAt (F := F) c (q.val + 1) q = _ from if_pos (by omega)] at h

theorem halves_put (y s : ℕ) (q : Fin 8) (hy : y = q.val) (hs : s ≤ 2 * q.val ∨ (q.val = 6 ∧ s ≤ 13)) :
    iprop(Halves m c y s ∗ (((c : Thread nD τ).loc cc0_scratch2) ↦[ySlot q]{fullShare} yFull m c)) ⊢ Halves m c (q.val + 1) s := by
  let t : Fin 16 := ⟨2 * q.val, by omega⟩
  let t' : Fin 16 := ⟨2 * q.val + 1, by omega⟩
  have hne : t ≠ t' := fun e => by have := congrArg Fin.val e; dsimp only [t, t'] at this; omega
  have hb : blk t = q := Fin.ext (show 2 * q.val / 2 = q.val by omega)
  have hb' : blk t' = q := Fin.ext (show (2 * q.val + 1) / 2 = q.val by omega)
  have e : ySlot q = yHalfSet c t ∪ yHalfSet c t' := by
    have := ySlot_halves c t t' hne (hb.trans hb'.symm)
    rwa [hb] at this
  have h := fam_put Finset.univ (halfAt m c y s) (halfAt m c (q.val + 1) s) t t' (Finset.mem_univ _) (Finset.mem_univ _) hne
    (fun u _ h1 h2 => by
      have h1 : u.val ≠ 2 * q.val := fun e => h1 (Fin.ext e)
      have h2 : u.val ≠ 2 * q.val + 1 := fun e => h2 (Fin.ext e)
      unfold halfAt
      exact if_congr (by constructor <;> rintro ⟨a, b⟩ <;> exact ⟨by omega, b⟩) rfl rfl)
    (if_neg (by dsimp only [t]; omega)) (if_neg (by dsimp only [t']; omega))
  rw [show halfAt m c (q.val + 1) s t = _ from if_pos ⟨by dsimp only [t]; omega, by rw [Fin.ext_iff]; show s ≤ 2 * q.val ∨ 2 * q.val = 12; omega⟩,
    show halfAt m c (q.val + 1) s t' = _ from if_pos ⟨by dsimp only [t']; omega, Or.inl (by dsimp only [t']; omega)⟩] at h
  refine (sep_mono_right ?_).trans h
  rw [e]
  exact (pointsTo_union (yHalf_disj c t t' hne)).1

theorem halves_take (y s : ℕ) (t : Fin 16) (hy : t.val / 2 < y) (hs : s = t.val) (ht : t ≠ 12) :
    Halves m c y s ⊢ iprop(hPts m c t ∗ (emp -∗ Halves m c y (after t))) := by
  have h := fam Finset.univ (halfAt m c y s) (halfAt m c y (after t)) t (Finset.mem_univ _) (fun t' _ ht' => by
    have := fun e => ht' (Fin.ext e)
    unfold halfAt
    by_cases h12 : t' = 12
    · exact if_congr (by simp only [h12, or_true]) rfl rfl
    · have := after_iff t t' h12
      exact if_congr (by simp only [h12, or_false]; constructor <;> rintro ⟨a, b⟩ <;> exact ⟨a, by omega⟩) rfl rfl)
  have := (after_iff t t ht).mpr (Or.inr rfl)
  rwa [show halfAt m c y s t = _ from if_pos ⟨hy, Or.inl (by omega)⟩, show halfAt m c y (after t) t = _ from if_neg (by rintro ⟨-, h | h⟩; omega; exact ht h)] at h

end Moves

end Cert.KernelIdeal.Exchange

end
-- ==== Proof.KernelIdeal.Steps.lean ====
/-
# One operation at a time

For each kind of operation of the body one lemma: from the state before it, with the counters where they must be, the
operation is safe, and the body goes on from the state after it. The operation's views, semaphores and offsets may be
spelled as the program spells them; hypotheses equate them with the canonical ones.
-/
module

public import proofs.«01_k».proof.Proof.KernelIdeal.State

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Steps
variable {K : Dev nD × Fin 41 → ℕ} {c : Dev nD} {i w j s y e e' e'' : ℕ} {b r o : Bool} {α : Type}

/-! ## The copies -/

/-- Starting the copy of column block `q`. -/
theorem step_copy (q : Fin 8) {src : Memref sig .tc .hbm S4096x256 .f32} {dst : Memref sig .tc .vmem S4096x256 .f32} {sm : DmaSem sig}
    {h1 : src.view.WordExact} {h2 : dst.view.WordExact} {h3 : DmaTarget.Typed .hbm (.dma sm) (.here dst : DmaTarget nD τ sig .tc .vmem S4096x256 .f32)}
    {k : PUnit → Prog (TpuEff nD τ sig (Elt F) Λ₀ .tc) α} {Q : α → sProp 𝕄}
    (hsrc : src = wSrc c q) (hdst : dst = bSlot q) (hsm : sm = copyS q) (hi : i = q.val) (hw : w ≤ q.val)
    (h : St m c K (q.val + 1) w j b s y r o e e' e'' ⊢ WP c (k ⟨⟩) Q) :
    St m c K i w j b s y r o e e' e'' ⊢ WP c (.op (.enqueueDma src (.here dst) (.dma sm) h1 h2 h3) k) Q := by
  subst hsrc hdst hsm
  unfold St
  iintro ⟨#HR, #HL, HX, HC, HS, HO, HB, HSe, HRe, HBl, HH, HF, HOut, HFix⟩
  ihave HC := (copies_start m c i w q hi hw) $$ HC
  icases HC with ⟨⟨⟨%f, Hb⟩, Hw, Ht, Hat⟩, HC⟩
  unfold wPts bPts
  ihave Hw := (pointsTo_split_subset (Finset.subset_univ (wSet c q))).1 $$ Hw
  icases Hw with ⟨Hw, Hw'⟩
  iapply (Rounds.wp_copy_pointsTo Variants.none EX (Rd m) (c : Thread nD τ) none (src := wSrc c q) (dst := bSlot q) (sem := .dma (copyS q)) (q := wShare q) (κ := K (c, kCopy q)) (r := 0) (d := 0) (fd := f) (fs := wAll m c)
    (by rw [duties_copy]; exact Finset.mem_singleton_self _) () NW rfl (amount_copy m c q 0) (by
      rw [payload_copy]; unfold copyPay bPts wPts
      exact sep_mono_left (Entails.of_eq (pointsTo_congr (copy_fills m c q f))))) $$ [Hb Hw Ht]
  · isplitr; · iapply (recs_inv m K c (kCopy q) (.dma (copyS q)) rfl); iexact HR
    isplitl [Hw]; · iexact Hw
    isplitl [Hb]; · iexact Hb
    isplitl [Ht]; · iexact Ht
    iapply (recs_reached m K c (kCopy q) (.dma (copyS q)) rfl); iexact HR
  iintro Hcr
  iapply h
  unfold St
  iframe HX HS HO HB HSe HRe HBl HH HF HOut HFix HR HL
  iapply HC
  iframe Hcr Hat Hw'

/-- Waiting for the copy of column block `q`: its slot holds the block, and the share of `W` is whole again. -/
theorem step_copied (q : Fin 8) {sp : Space} {s₁ : Shape} {e₁ : EltTy} {src : Memref sig .tc sp s₁ e₁} {dst : Memref sig .tc .vmem S4096x256 .f32} {sm : DmaSem sig}
    {h1 : src.view.WordExact} {h2 : dst.view.WordExact} {k : PUnit → Prog (TpuEff nD τ sig (Elt F) Λ₀ .tc) α} {Q : α → sProp 𝕄}
    (hN : dst.view.dmaCredit = NW) (hsm : sm = copyS q) (hi : q.val < i) (hw : w = q.val)
    (h : St m c K i (q.val + 1) j b s y r o e e' e'' ⊢ WP c (k ⟨⟩) Q) :
    St m c K i w j b s y r o e e' e'' ⊢ WP c (.op (.waitDma2 sm src dst h1 h2) k) Q := by
  subst hsm
  unfold St
  iintro ⟨#HR, #HL, HX, HC, HS, HO, HB, HSe, HRe, HBl, HH, HF, HOut, HFix⟩
  ihave HC := (copies_wait m c i w q hi hw) $$ HC
  icases HC with ⟨⟨Hcr, Hat, Hw'⟩, HC⟩
  unfold Owes
  icases HO with ⟨%W, HO⟩
  iapply (Rounds.wp_wait_rest_token Variants.none EX (Rd m) (c : Thread nD τ) none (κ := K (c, kCopy q)) (sm := .dma (copyS q))
      (wpE_waitDma2_eq Variants.none (c : Thread nD τ) none Set.univ) (Set.mem_univ _) () (O := owed c j s) (W := W) (R := 0) (m := 0) (T := ∅)
      (by rw [Nat.zero_add, expect_copy, hN])) $$ [Hcr HO Hat]
  · rw [hN]
    isplitr; · iapply (recs_inv m K c (kCopy q) (.dma (copyS q)) rfl); iexact HR
    isplitl [Hcr]; · iexact Hcr
    isplitl [HO]; · iexact HO
    isplitr
    · iapply (mayWait_below c (.dma (copyS q)) 0 (Nat.le_of_eq (if_pos (show q.val + 2 < 26 by omega))) j s (Or.inl (by decide)) (by decide)); iexact HL
    iexact Hat
  iintro ⟨HO, Hat, -, Hpay⟩
  ihave Hp := (Entails.of_eq (rest_copy m c q)) $$ Hpay
  unfold copyPay
  icases Hp with ⟨Hb, Hw⟩
  imod (Rounds.cell_close EX (Rd m) (Set.mem_univ (K (c, kCopy q))) (fun h => h) (R := 0 + 1) (duties_later m (copyCell c q))) $$ [Hat] with Hz
  · isplitr; · iapply (recs_inv m K c (kCopy q) (.dma (copyS q)) rfl); iexact HR
    iexact Hat
  iapply h
  unfold St
  iframe HX HS HB HSe HRe HBl HH HF HOut HFix HR HL
  isplitl [HC Hb Hw Hw' Hz]
  · iapply HC
    iframe Hb Hz
    unfold wPts
    iapply (pointsTo_split_subset (Finset.subset_univ (wSet c q))).2
    iframe Hw Hw'
  unfold Owes; iexists _; iexact HO

/-! ## The signals and the barrier -/

/-- The signal to the device `J` further round the ring: it hands over the receive slot of the step at which that device sends here. -/
theorem step_signal (J : Fin 16) {dst : Dev nD} {n : ℤ} {k : PUnit → Prog (TpuEff nD τ sig (Elt F) Λ₀ .tc) α} {Q : α → sProp 𝕄}
    (hd : dst.val = (c.val + J.val) % 16) (hn : n = 1) (hJ : J ≠ 0) (hj : j + 1 = J.val)
    (h : St m c K i w J.val b s y r o e e' e'' ⊢ WP c (k ⟨⟩) Q) :
    St m c K i w j b s y r o e e' e'' ⊢ WP c (.op (.semSignal ((dst : Thread nD τ)) barS n) k) Q := by
  obtain ⟨h12, hr, hs⟩ := stepOf_spec c J hJ
  generalize stepOf c J = t at h12 hr hs
  obtain rfl : dst = src c t := Fin.ext (hd.trans hs.symm)
  subst hn
  unfold St
  iintro ⟨#HR, #HL, HX, HC, HS, HO, HB, HSe, HRe, HBl, HH, HF, HOut, HFix⟩
  ihave HS := (signals_give c j J.val t hr.symm hj.symm) $$ HS
  icases HS with ⟨⟨Ht, Hr⟩, HS⟩
  unfold Owes
  icases HO with ⟨%W, HO⟩
  iapply (Rounds.wp_signal Variants.none EX (Rd m) (c : Thread nD τ) none (dst := (src c t : Thread nD τ)) (κ := K (src c t, 0)) (r := 0)
      (d := t) (by rw [duties_bar]; exact Finset.mem_erase.mpr ⟨h12, Finset.mem_univ _⟩) ((amount_bar m (src c t) t).trans (by decide)) () (owed c J.val s)
      (owed_signal c t j J.val s (by omega) hr.symm hj.symm)) $$ [HO Ht Hr]
  · isplitr; · iapply (recs_inv m K (src c t) 0 (.reg barS) rfl); iexact HR
    isplitl [HO]; · iexact HO
    isplitl [Ht]; · iexact Ht
    isplitl [Hr]
    · rw [payload_bar]; unfold barPay; rw [tgt_src]; iexact Hr
    iapply (recs_reached m K (src c t) 0 (.reg barS) rfl); iexact HR
  iintro HO
  iapply h
  unfold St
  iframe HX HC HB HSe HRe HBl HH HF HOut HFix HR HL
  isplitl [HS]
  · iapply HS; iempintro
  unfold Owes; iexists _; iexact HO

/-- The barrier: every target of this device has handed over its receive slot. -/
theorem step_barrier {n : ℤ} {k : PUnit → Prog (TpuEff nD τ sig (Elt F) Λ₀ .tc) α} {Q : α → sProp 𝕄}
    (hn : n = 15) (hj : j = 15) (hb : b = false)
    (h : St m c K i w 15 true s y r o e e' e'' ⊢ WP c (k ⟨⟩) Q) (hs : s = 0) :
    St m c K i w j b s y r o e e' e'' ⊢ WP c (.op (.semWait barS n) k) Q := by
  subst hn hj hb hs
  unfold St
  iintro ⟨#HR, #HL, HX, HC, HS, HO, HB, HSe, HRe, HBl, HH, HF, HOut, HFix⟩
  unfold Owes
  icases HO with ⟨%W, HO⟩
  ihave HB := (Entails.of_eq (Bar_before c 0)) $$ HB
  icases HB with ⟨Hcr, Hat⟩
  iapply (Rounds.wp_wait_rest_token Variants.none EX (Rd m) (c : Thread nD τ) none (κ := K (c, 0)) (sm := .reg barS)
      (wpE_semWait_eq Variants.none (c : Thread nD τ) none Set.univ) (Set.mem_univ _) () (O := owed c 15 0) (W := W) (R := 0) (m := 0) (T := ∅)
      (by rw [expect_bar])) $$ [Hcr HO Hat]
  · isplitr; · iapply (recs_inv m K c 0 (.reg barS) rfl); iexact HR
    isplitl [Hcr]; · iexact Hcr
    isplitl [HO]; · iexact HO
    isplitr
    · iapply (mayWait_below c (.reg barS) 1 le_rfl 15 0 (Or.inr le_rfl) (by decide)); iexact HL
    iexact Hat
  iintro ⟨HO, Hat, -, Hpay⟩
  ihave Hp := (Entails.of_eq (rest_bar m c)) $$ Hpay
  imod (Rounds.cell_close EX (Rd m) (Set.mem_univ (K (c, 0))) (fun h => h) (R := 0 + 1) (duties_later m (barCell c))) $$ [Hat] with Hz
  · isplitr; · iapply (recs_inv m K c 0 (.reg barS) rfl); iexact HR
    iexact Hat
  iapply h
  unfold St
  iframe HX HC HS HSe HRe HBl HH HF HOut HFix HR HL
  isplitl [HO]; · unfold Owes; iexists _; iexact HO
  rw [Bar_after]
  iframe Hz
  rw [bigSep_congr fun t _ => show slotAt (F := F) c 0 t = barPay c t from if_pos (Nat.zero_le _)]
  iexact Hp

/-! ## The sends -/

/-- The send of step `t`. -/
theorem step_send (t : Fin 16) {src dst : Memref sig .tc .vmem S256x128 .bf16} {d : Dev nD} {s₁ s₂ : DmaSem sig}
    {hsc : (dst : Memref sig (Dev.tc d : Thread nD τ).2.kind .vmem S256x128 .bf16).view.ref.isScScratch = false}
    {h1 : src.view.WordExact} {h2 : dst.view.WordExact}
    {h3 : DmaTarget.Typed .vmem (.dma s₂) (.remote (Dev.tc d : Thread nD τ) (dst : Memref sig (Dev.tc d : Thread nD τ).2.kind .vmem S256x128 .bf16) (.dma s₁) hsc : DmaTarget nD τ sig .tc .vmem S256x128 .bf16)}
    {k : PUnit → Prog (TpuEff nD τ sig (Elt F) Λ₀ .tc) α} {Q : α → sProp 𝕄}
    (hsrc : src = yHalf c t) (hdst : dst = rSlot t) (hd : d.val = (tgt c t).val) (hs₁ : s₁ = sendS t) (hs₂ : s₂ = recvS t)
    (ht : t ≠ 12) (hs : s = t.val) (he : e ≤ t.val) (hy : t.val / 2 < y) (hb : b = true)
    (h : St m c K i w j true (after t) y r o e e' e'' ⊢ WP c (k ⟨⟩) Q) :
    St m c K i w j b s y r o e e' e'' ⊢ WP c (.op (.enqueueDma src (.remote (Dev.tc d) dst (.dma s₁) hsc) (.dma s₂) h1 h2 h3) k) Q := by
  obtain rfl : d = tgt c t := Fin.ext hd
  subst hsrc hdst hs₁ hs₂ hb
  unfold St
  iintro ⟨#HR, #HL, HX, HC, HS, HO, HB, HSe, HRe, HBl, HH, HF, HOut, HFix⟩
  ihave HSe := (sends_start m c s e t hs he ht) $$ HSe
  icases HSe with ⟨⟨Ht, Ht', Hat⟩, HSe⟩
  ihave HH := (halves_take m c y s t hy hs ht) $$ HH
  icases HH with ⟨Hh, HH⟩
  ihave HB := (Entails.of_eq (Bar_after c s)) $$ HB
  icases HB with ⟨Hz, HB⟩
  ihave HB := (slots_take c s t hs ht) $$ HB
  icases HB with ⟨Hr, HB⟩
  unfold barPay
  icases Hr with ⟨%fd, Hr⟩
  unfold Owes
  icases HO with ⟨%W, HO⟩
  ihave HO := (Entails.of_eq (show owes (c : Thread nD τ) (owed c j s) W = owes (c : Thread nD τ) (owed c j (after t) + tallyAt (recvCell (tgt c t) t) () NR) W by
    rw [hs, owed_send c t j ht])) $$ HO
  unfold hPts rPts
  iapply (Rounds.wp_send_pointsTo Variants.none EX (Rd m) (c : Thread nD τ) none (src := yHalf c t) (c' := (tgt c t : Thread nD τ)) (dst := rSlot t)
      (sS := .dma (sendS t)) (sem := .dma (recvS t)) (q := fullShare) (fs := yFull m c) (fd := fd)
      (κ₁ := K (c, kSend t)) (κ₂ := K (tgt c t, kRecv t)) (r₁ := 0) (r₂ := 0) (d₁ := 0) (d₂ := 0)
      (by rw [duties_send m c t ht]; exact Finset.mem_singleton_self _) (by rw [duties_recv m (tgt c t) t ht]; exact Finset.mem_singleton_self _)
      () () NR rfl (amount_send m c t 0) (amount_recv m (tgt c t) t 0) (owed c j (after t)) rfl (W := W)
      (by rw [payload_send]; exact Entails.refl _)
      (by rw [payload_recv]; unfold rPts; exact Entails.of_eq (pointsTo_congr (send_fills m c t fd)))) $$ [Hh Hr HO Ht Ht']
  · isplitr; · iapply (recs_inv m K c (kSend t) (.dma (sendS t)) rfl); iexact HR
    isplitr; · iapply (recs_inv m K (tgt c t) (kRecv t) (.dma (recvS t)) rfl); iexact HR
    isplitl [Hh]; · iexact Hh
    isplitl [Hr]; · iexact Hr
    isplitl [HO]; · iexact HO
    isplitl [Ht]; · iexact Ht
    isplitr; · iapply (recs_reached m K c (kSend t) (.dma (sendS t)) rfl); iexact HR
    isplitl [Ht']; · iexact Ht'
    iapply (recs_reached m K (tgt c t) (kRecv t) (.dma (recvS t)) rfl); iexact HR
  iintro ⟨Hcr, HO⟩
  iapply h
  unfold St
  iframe HX HC HS HRe HBl HF HOut HFix HR HL
  isplitl [HO]; · unfold Owes; iexists _; iexact HO
  isplitl [Hz HB]
  · rw [Bar_after]
    iframe Hz
    iapply HB; iempintro
  isplitl [HSe Hcr Hat]
  · iapply HSe; iframe Hcr Hat
  iapply HH; iempintro

/-- Waiting for the send of step `t`. -/
theorem step_sent (t : Fin 16) {sp : Space} {s₁ : Shape} {e₁ : EltTy} {src : Memref sig .tc sp s₁ e₁} {dst : Memref sig .tc .vmem S256x128 .bf16} {sm : DmaSem sig}
    {h1 : src.view.WordExact} {h2 : dst.view.WordExact} {k : PUnit → Prog (TpuEff nD τ sig (Elt F) Λ₀ .tc) α} {Q : α → sProp 𝕄}
    (hN : dst.view.dmaCredit = NR) (hsm : sm = sendS t) (ht : t ≠ 12) (hj : j = 15) (hs : s = 16) (he : e = t.val)
    (h : St m c K i w 15 b 16 y r o (after t) e' e'' ⊢ WP c (k ⟨⟩) Q) :
    St m c K i w j b s y r o e e' e'' ⊢ WP c (.op (.waitDma2 sm src dst h1 h2) k) Q := by
  subst hsm hj hs
  unfold St
  iintro ⟨#HR, #HL, HX, HC, HS, HO, HB, HSe, HRe, HBl, HH, HF, HOut, HFix⟩
  ihave HSe := (sends_wait m c 16 e t t.isLt he ht) $$ HSe
  icases HSe with ⟨⟨Hcr, Hat⟩, HSe⟩
  unfold Owes
  icases HO with ⟨%W, HO⟩
  iapply (Rounds.wp_wait_rest_token Variants.none EX (Rd m) (c : Thread nD τ) none (κ := K (c, kSend t)) (sm := .dma (sendS t))
      (wpE_waitDma2_eq Variants.none (c : Thread nD τ) none Set.univ) (Set.mem_univ _) () (O := owed c 15 16) (W := W) (R := 0) (m := 0) (T := ∅)
      (by rw [Nat.zero_add, expect_send m c t ht, hN])) $$ [Hcr HO Hat]
  · rw [hN]
    isplitr; · iapply (recs_inv m K c (kSend t) (.dma (sendS t)) rfl); iexact HR
    isplitl [Hcr]; · iexact Hcr
    isplitl [HO]; · iexact HO
    isplitr; · iapply (mayWait_done c (.dma (sendS t))); iempintro
    iexact Hat
  iintro ⟨HO, Hat, -, Hpay⟩
  ihave Hp := (Entails.of_eq (rest_send m c t ht)) $$ Hpay
  imod (Rounds.cell_close EX (Rd m) (Set.mem_univ (K (c, kSend t))) (fun h => h) (R := 0 + 1) (duties_later m (sendCell c t))) $$ [Hat] with Hz
  · isplitr; · iapply (recs_inv m K c (kSend t) (.dma (sendS t)) rfl); iexact HR
    iexact Hat
  iapply h
  unfold St
  iframe HX HC HS HB HRe HBl HH HF HOut HFix HR HL
  isplitl [HO]; · unfold Owes; iexists _; iexact HO
  iapply HSe; iframe Hp Hz

/-- Waiting for what comes at step `t`. -/
theorem step_received (t : Fin 16) {sp : Space} {s₁ : Shape} {e₁ : EltTy} {src : Memref sig .tc sp s₁ e₁} {dst : Memref sig .tc .vmem S256x128 .bf16} {sm : DmaSem sig}
    {h1 : src.view.WordExact} {h2 : dst.view.WordExact} {k : PUnit → Prog (TpuEff nD τ sig (Elt F) Λ₀ .tc) α} {Q : α → sProp 𝕄}
    (hN : dst.view.dmaCredit = NR) (hsm : sm = recvS t) (ht : t ≠ 12) (hj : j = 15) (hs : s = 16) (he : e' = t.val)
    (h : St m c K i w 15 b 16 y r o e (after t) e'' ⊢ WP c (k ⟨⟩) Q) :
    St m c K i w j b s y r o e e' e'' ⊢ WP c (.op (.waitDma2 sm src dst h1 h2) k) Q := by
  subst hsm hj hs
  unfold St
  iintro ⟨#HR, #HL, HX, HC, HS, HO, HB, HSe, HRe, HBl, HH, HF, HOut, HFix⟩
  ihave HRe := (recvs_wait m c e' t he ht) $$ HRe
  icases HRe with ⟨⟨Hcr, Hat⟩, HRe⟩
  unfold Owes
  icases HO with ⟨%W, HO⟩
  iapply (Rounds.wp_wait_rest_token Variants.none EX (Rd m) (c : Thread nD τ) none (κ := K (c, kRecv t)) (sm := .dma (recvS t))
      (wpE_waitDma2_eq Variants.none (c : Thread nD τ) none Set.univ) (Set.mem_univ _) () (O := owed c 15 16) (W := W) (R := 0) (m := 0) (T := ∅)
      (by rw [Nat.zero_add, expect_recv m c t ht, hN])) $$ [Hcr HO Hat]
  · rw [hN]
    isplitr; · iapply (recs_inv m K c (kRecv t) (.dma (recvS t)) rfl); iexact HR
    isplitl [Hcr]; · iexact Hcr
    isplitl [HO]; · iexact HO
    isplitr; · iapply (mayWait_done c (.dma (recvS t))); iempintro
    iexact Hat
  iintro ⟨HO, Hat, -, Hpay⟩
  ihave Hp := (Entails.of_eq (rest_recv m c t ht)) $$ Hpay
  imod (Rounds.cell_close EX (Rd m) (Set.mem_univ (K (c, kRecv t))) (fun h => h) (R := 0 + 1) (duties_later m (recvCell c t))) $$ [Hat] with Hz
  · isplitr; · iapply (recs_inv m K c (kRecv t) (.dma (recvS t)) rfl); iexact HR
    iexact Hat
  iapply h
  unfold St
  iframe HX HC HS HB HSe HBl HH HF HOut HFix HR HL
  isplitl [HO]; · unfold Owes; iexists _; iexact HO
  iapply HRe; iframe Hp Hz

/-! ## The loads and stores -/

/-- Loading the rows of `x`. -/
theorem step_x {r₁ : LoadRect S256x4096} {hl : xM.view.LoadsAt r₁} {k : (r₁.shape.Idx → Elt F .f32) → Prog (TpuEff nD τ sig (Elt F) Λ₀ .tc) α} {Q : α → sProp 𝕄}
    (h : St m c K i w j b s y r o e e' e'' ⊢ WP c (k (xM.view.readAt (Elt F) r₁ (xs m c))) Q) :
    St m c K i w j b s y r o e e' e'' ⊢ WP c (.op (.load xM r₁ hl) k) Q := by
  unfold St
  iintro ⟨#HR, #HL, HX, HC, HS, HO, HB, HSe, HRe, HBl, HH, HF, HOut, HFix⟩
  unfold XPart
  iapply (wp_load Variants.none (c : Thread nD τ) none Set.univ (m := xM) (Finset.subset_univ _)) $$ HX; iintro HX
  iapply h
  unfold St
  iframe HC HS HO HB HSe HRe HBl HH HF HOut HFix HR HL
  unfold XPart
  iexact HX

/-- Loading column block `q` of `W`. -/
theorem step_block (q : Fin 8) {off : Fin 3 → ℕ} {inb : ∀ a, off a + S1x4096x256.size a ≤ S8x4096x256.size a}
    {hl : bM.view.LoadsAt (Rect.unit (s := S8x4096x256) off S1x4096x256.size inb).toLoadRect} {k : Vec F S1x4096x256 .f32 → Prog (TpuEff nD τ sig (Elt F) Λ₀ .tc) α} {Q : α → sProp 𝕄}
    (hoff : off = ![q.val, 0, 0]) (hw : q.val < w)
    (h : St m c K i w j b s y r o e e' e'' ⊢ WP c (k (wBlk m c q)) Q) :
    St m c K i w j b s y r o e e' e'' ⊢ WP c (.op (.load bM (Rect.unit (s := S8x4096x256) off S1x4096x256.size inb).toLoadRect hl) k) Q := by
  subst hoff
  unfold St
  iintro ⟨#HR, #HL, HX, HC, HS, HO, HB, HSe, HRe, HBl, HH, HF, HOut, HFix⟩
  ihave HC := (copies_read m c i w q hw) $$ HC
  icases HC with ⟨⟨Hb, Hc⟩, HC⟩
  unfold bPts
  iapply (wp_load_rect Variants.none (c : Thread nD τ) none Set.univ (m := bM) (r := Rect.unit (s := S8x4096x256) ![q.val, 0, 0] S1x4096x256.size inb) (S := bSet q)
    (by rw [bSet_eq]; exact (View.set_slice_whole _ _).le)) $$ Hb
  iintro Hb
  rw [show (bM.access (Rect.unit (s := S8x4096x256) ![q.val, 0, 0] S1x4096x256.size inb)).read (Elt F) (bFull m c) = wBlk m c q from read_bFull m c q rfl inb]
  iapply h
  unfold St
  iframe HX HS HO HB HSe HRe HBl HH HF HOut HFix HR HL
  iapply HC
  iframe Hb Hc

/-- Loading a slot of the product buffer before it is stored; the value is not used. -/
theorem step_yload (q : Fin 8) {off : Fin 3 → ℕ} {inb : ∀ a, off a + S1x256x256.size a ≤ S8x256x256.size a}
    {hl : yM.view.LoadsAt (Rect.unit (s := S8x256x256) off S1x256x256.size inb).toLoadRect} {k : Vec F S1x256x256 .bf16 → Prog (TpuEff nD τ sig (Elt F) Λ₀ .tc) α} {Q : α → sProp 𝕄}
    (hoff : off = ![q.val, 0, 0]) (hy : y = q.val)
    (h : ∀ v, St m c K i w j b s y r o e e' e'' ⊢ WP c (k v) Q) :
    St m c K i w j b s y r o e e' e'' ⊢ WP c (.op (.load yM (Rect.unit (s := S8x256x256) off S1x256x256.size inb).toLoadRect hl) k) Q := by
  subst hoff
  unfold St
  iintro ⟨#HR, #HL, HX, HC, HS, HO, HB, HSe, HRe, HBl, HH, HF, HOut, HFix⟩
  ihave HBl := (blocks_read c y q hy) $$ HBl
  icases HBl with ⟨⟨%f, Hy⟩, HBl⟩
  iapply (wp_load_rect Variants.none (c : Thread nD τ) none Set.univ (m := yM) (r := Rect.unit (s := S8x256x256) ![q.val, 0, 0] S1x256x256.size inb) (S := ySlot q)
    (by exact (View.set_slice_whole _ _).le)) $$ Hy
  iintro Hy
  iapply (h _)
  unfold St
  iframe HX HC HS HO HB HSe HRe HH HF HOut HFix HR HL
  iapply HBl
  iexists f; iexact Hy

/-- Storing column block `q` of the product. -/
theorem step_ystore (q : Fin 8) {off : Fin 3 → ℕ} {inb : ∀ a, off a + S1x256x256.size a ≤ S8x256x256.size a} {v : Vec F S1x256x256 .bf16}
    {hx : (yM.access (Rect.unit (s := S8x256x256) off S1x256x256.size inb)).Stores Finset.univ} {hm}
    {k : PUnit → Prog (TpuEff nD τ sig (Elt F) Λ₀ .tc) α} {Q : α → sProp 𝕄}
    (hoff : off = ![q.val, 0, 0]) (hv : v = yBlk m c q) (hy : y = q.val) (hs : s ≤ 2 * q.val ∨ (q.val = 6 ∧ s ≤ 13))
    (h : St m c K i w j b s (q.val + 1) r o e e' e'' ⊢ WP c (k ⟨⟩) Q) :
    St m c K i w j b s y r o e e' e'' ⊢ WP c (.op (.store yM (Rect.unit (s := S8x256x256) off S1x256x256.size inb) v Finset.univ hx hm) k) Q := by
  subst hoff hv
  unfold St
  iintro ⟨#HR, #HL, HX, HC, HS, HO, HB, HSe, HRe, HBl, HH, HF, HOut, HFix⟩
  ihave HBl := (blocks_store c y q hy) $$ HBl
  icases HBl with ⟨⟨%f, Hy⟩, HBl⟩
  iapply (wp_store Variants.none (c : Thread nD τ) none Set.univ (m := yM) (r := yRect q) (Mk := Finset.univ) (S := ySlot q)
    (by rw [View.setOn_univ]; exact (View.set_slice_whole _ _).le)) $$ Hy
  iintro Hy
  ihave Hy := (Entails.of_eq (pointsTo_congr (store_fills m c q f))) $$ Hy
  iapply h
  unfold St
  iframe HX HC HS HO HB HSe HRe HF HOut HFix HR HL
  isplitl [HBl]
  · iapply HBl; iempintro
  iapply (halves_put m c y s q hy hs)
  iframe HH Hy

/-- Loading the buffer of the unrounded block before it is stored; the value is not used. -/
theorem step_rawload {r₁ : LoadRect S256x256} {hl : fM.view.LoadsAt r₁} {k : (r₁.shape.Idx → Elt F .f32) → Prog (TpuEff nD τ sig (Elt F) Λ₀ .tc) α} {Q : α → sProp 𝕄}
    (h : ∀ v, St m c K i w j b s y r o e e' e'' ⊢ WP c (k v) Q) :
    St m c K i w j b s y r o e e' e'' ⊢ WP c (.op (.load fM r₁ hl) k) Q := by
  unfold St
  iintro ⟨#HR, #HL, HX, HC, HS, HO, HB, HSe, HRe, HBl, HH, HF, HOut, HFix⟩
  unfold Raw
  icases HF with ⟨%f, %hf, HF⟩
  iapply (wp_load Variants.none (c : Thread nD τ) none Set.univ (m := fM) (Finset.subset_univ _)) $$ HF; iintro HF
  iapply (h _)
  unfold St
  iframe HX HC HS HO HB HSe HRe HBl HH HOut HFix HR HL
  unfold Raw
  iexists f; isplitr; · ipureintro; exact hf
  iexact HF

/-- Storing the unrounded block. -/
theorem step_rawstore {off : Fin 2 → ℕ} {inb : ∀ a, off a + S256x256.size a ≤ S256x256.size a} {v : Vec F S256x256 .f32}
    {hx : (fM.access (Rect.unit (s := S256x256) off S256x256.size inb)).Stores Finset.univ} {hm}
    {k : PUnit → Prog (TpuEff nD τ sig (Elt F) Λ₀ .tc) α} {Q : α → sProp 𝕄}
    (hoff : off = ![0, 0]) (hv : v = yOwn m c)
    (h : St m c K i w j b s y true o e e' e'' ⊢ WP c (k ⟨⟩) Q) :
    St m c K i w j b s y r o e e' e'' ⊢ WP c (.op (.store fM (Rect.unit (s := S256x256) off S256x256.size inb) v Finset.univ hx hm) k) Q := by
  subst hoff hv
  unfold St
  iintro ⟨#HR, #HL, HX, HC, HS, HO, HB, HSe, HRe, HBl, HH, HF, HOut, HFix⟩
  unfold Raw
  icases HF with ⟨%f, %hf, HF⟩
  iapply (wp_store Variants.none (c : Thread nD τ) none Set.univ (m := fM) (r := Rect.unit (s := S256x256) ![0, 0] S256x256.size inb) (Mk := Finset.univ) (Finset.subset_univ _)) $$ HF
  iintro HF
  iapply h
  unfold St
  iframe HX HC HS HO HB HSe HRe HBl HH HOut HFix HR HL
  unfold Raw
  iexists _
  isplitr; swap; · iexact HF
  ipureintro
  intro _
  exact raw_fills m c inb f

/-- Loading the own half of the unrounded block. -/
theorem step_own {off : Fin 2 → ℕ} {inb : ∀ a, off a + S256x128.size a ≤ S256x256.size a}
    {hl : fM.view.LoadsAt (Rect.unit (s := S256x256) off S256x128.size inb).toLoadRect} {k : Vec F S256x128 .f32 → Prog (TpuEff nD τ sig (Elt F) Λ₀ .tc) α} {Q : α → sProp 𝕄}
    (hoff : off = ![0, 128 * half c 12]) (hr : r = true)
    (h : St m c K i w j b s y true o e e' e'' ⊢ WP c (k (piece m c 12)) Q) :
    St m c K i w j b s y r o e e' e'' ⊢ WP c (.op (.load fM (Rect.unit (s := S256x256) off S256x128.size inb).toLoadRect hl) k) Q := by
  subst hr
  unfold St
  iintro ⟨#HR, #HL, HX, HC, HS, HO, HB, HSe, HRe, HBl, HH, HF, HOut, HFix⟩
  unfold Raw
  icases HF with ⟨%f, %hf, HF⟩
  obtain rfl := hf rfl
  iapply (wp_load Variants.none (c : Thread nD τ) none Set.univ (m := fM) (Finset.subset_univ _)) $$ HF; iintro HF
  rw [read_yOwn m c hoff inb]
  iapply h
  unfold St
  iframe HX HC HS HO HB HSe HRe HBl HH HOut HFix HR HL
  unfold Raw
  iexists yOwn m c; isplitr; · ipureintro; exact fun _ => rfl
  iexact HF

/-- Loading rows of the result before they are stored; the value is not used. -/
theorem step_outload {r₁ : LoadRect S4096x128} {hl : oM.view.LoadsAt r₁} {k : (r₁.shape.Idx → Elt F .f32) → Prog (TpuEff nD τ sig (Elt F) Λ₀ .tc) α} {Q : α → sProp 𝕄}
    (h : ∀ v, St m c K i w j b s y r o e e' e'' ⊢ WP c (k v) Q) :
    St m c K i w j b s y r o e e' e'' ⊢ WP c (.op (.load oM r₁ hl) k) Q := by
  unfold St
  iintro ⟨#HR, #HL, HX, HC, HS, HO, HB, HSe, HRe, HBl, HH, HF, HOut, HFix⟩
  unfold Out
  icases HOut with ⟨%f, %hf, HOut⟩
  iapply (wp_load Variants.none (c : Thread nD τ) none Set.univ (m := oM) (Finset.subset_univ _)) $$ HOut; iintro HOut
  iapply (h _)
  unfold St
  iframe HX HC HS HO HB HSe HRe HBl HH HF HFix HR HL
  unfold Out
  iexists f; isplitr; · ipureintro; exact hf
  iexact HOut

/-- Storing the rows of the result that come at step `t`. -/
theorem step_outstore (t : Fin 16) (o' : Bool) (n : ℕ) {off : Fin 2 → ℕ} {inb : ∀ a, off a + S256x128.size a ≤ S4096x128.size a} {v : Vec F S256x128 .f32}
    {hx : (oM.access (Rect.unit (s := S4096x128) off S256x128.size inb)).Stores Finset.univ} {hm}
    {k : PUnit → Prog (TpuEff nD τ sig (Elt F) Λ₀ .tc) α} {Q : α → sProp 𝕄}
    (hoff : off = ![256 * (src c t).val, 0]) (hv : v = piece m c t) (hdone : ∀ u, Done o' n u → Done o e'' u ∨ u = t)
    (h : St m c K i w j b s y r o' e e' n ⊢ WP c (k ⟨⟩) Q) :
    St m c K i w j b s y r o e e' e'' ⊢ WP c (.op (.store oM (Rect.unit (s := S4096x128) off S256x128.size inb) v Finset.univ hx hm) k) Q := by
  subst hv
  unfold St
  iintro ⟨#HR, #HL, HX, HC, HS, HO, HB, HSe, HRe, HBl, HH, HF, HOut, HFix⟩
  unfold Out
  icases HOut with ⟨%f, %hf, HOut⟩
  iapply (wp_store Variants.none (c : Thread nD τ) none Set.univ (m := oM) (r := Rect.unit (s := S4096x128) off S256x128.size inb) (Mk := Finset.univ) (Finset.subset_univ _)) $$ HOut
  iintro HOut
  iapply h
  unfold St
  iframe HX HC HS HO HB HSe HRe HBl HH HF HFix HR HL
  unfold Out
  iexists _
  isplitr; swap; · iexact HOut
  ipureintro
  intro u hu l hl
  have hp := store_piece m c t hoff inb f l
  by_cases ht : Rows c t l
  · exact hp.1 ht
  · refine (hp.2 ht).trans ?_
    rcases hdone u hu with hu | rfl
    · exact hf u hu l hl
    · exact absurd hl ht

/-- Loading what came at step `t`. -/
theorem step_rload (t : Fin 16) {off : Fin 3 → ℕ} {inb : ∀ a, off a + S1x256x128.size a ≤ S16x256x128.size a}
    {hl : rM.view.LoadsAt (Rect.unit (s := S16x256x128) off S1x256x128.size inb).toLoadRect} {k : Vec F S1x256x128 .bf16 → Prog (TpuEff nD τ sig (Elt F) Λ₀ .tc) α} {Q : α → sProp 𝕄}
    (hoff : off = ![(slot t).val, 0, 0]) (ht : t ≠ 12) (he : t.val < e')
    (h : St m c K i w j b s y r o e e' e'' ⊢ WP c (k (yPart m (src c t) t)) Q) :
    St m c K i w j b s y r o e e' e'' ⊢ WP c (.op (.load rM (Rect.unit (s := S16x256x128) off S1x256x128.size inb).toLoadRect hl) k) Q := by
  subst hoff
  unfold St
  iintro ⟨#HR, #HL, HX, HC, HS, HO, HB, HSe, HRe, HBl, HH, HF, HOut, HFix⟩
  ihave HRe := (recvs_read m c e' t he ht) $$ HRe
  icases HRe with ⟨⟨Hr, Hz⟩, HRe⟩
  unfold rPts
  iapply (wp_load_rect Variants.none (c : Thread nD τ) none Set.univ (m := rM) (r := Rect.unit (s := S16x256x128) ![(slot t).val, 0, 0] S1x256x128.size inb) (S := rSet t)
    (by rw [rSet_eq]; exact (View.set_slice_whole _ _).le)) $$ Hr
  iintro Hr
  rw [show (rM.access (Rect.unit (s := S16x256x128) ![(slot t).val, 0, 0] S1x256x128.size inb)).read (Elt F) (rFull m c) = yPart m (src c t) t from read_rFull m c t rfl inb]
  iapply h
  unfold St
  iframe HX HC HS HO HB HSe HBl HH HF HOut HFix HR HL
  iapply HRe
  iframe Hr Hz

end Steps

end Cert.KernelIdeal.Exchange

end
-- ==== Proof.KernelIdeal.Body.lean ====
/-
# A device's body

The printed body is a sequence of parts. Each part takes the state with the counters at its start to the state with the
counters at its end; the values it hands on are the ones the state speaks of. Composed, the body takes the device from the
state where nothing has happened to the one where everything has.
-/
module

public import proofs.«01_k».proof.Proof.KernelIdeal.Steps

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A part of the body, or the whole body, at the buffers the launch gives it. -/
abbrev bufs {β : Type*} (f : (arg0 : Memref sig .tc .vmem S256x4096 .f32) → arg0.IsWhole → (arg1 : Memref sig .tc .hbm S4096x2048 .f32) → arg1.IsWhole →
    (arg2 : Memref sig .tc .vmem S4096x128 .f32) → arg2.IsWhole → (arg3 : Memref sig .tc .vmem S8x4096x256 .f32) → arg3.IsWhole →
    (arg4 : Memref sig .tc .vmem S256x256 .f32) → arg4.IsWhole → (arg5 : Memref sig .tc .vmem S8x256x256 .bf16) → arg5.IsWhole →
    (arg6 : Memref sig .tc .vmem S16x256x128 .bf16) → arg6.IsWhole → DmaSems sig S8 → DmaSems sig S16 → DmaSems sig S16 → β) : β :=
  f xM (Memref.isWhole_whole _) wM (Memref.isWhole_whole _) oM (Memref.isWhole_whole _) bM (Memref.isWhole_whole _) fM (Memref.isWhole_whole _)
    yM (Memref.isWhole_whole _) rM (Memref.isWhole_whole _) cc0_scratch4 cc0_scratch5 cc0_scratch6

section Parts
variable {K : Dev nD × Fin 41 → ℕ} {c : Dev nD}

/-- A part's end: the state is the one claimed. -/
theorem ret_of {α : Type} {a : α} {P : sProp 𝕄} : P ⊢ WP c (.ret a) (fun _ => P) := by
  unfold WP; rw [wp_ret]; exact fupd_intro
/-- A part's end, with the value it hands on. -/
theorem ret_eq {α : Type} {a : α} {φ : α → Prop} {P : sProp 𝕄} (h : φ a) : P ⊢ WP c (.ret a) (fun a => iprop(⌜φ a⌝ ∗ P)) := by
  unfold WP; rw [wp_ret]
  iintro H
  imodintro
  isplitr
  · ipureintro; exact h
  · iexact H
/-- One part after another. -/
theorem then_of {α β : Type} {p : Prog (TpuEff nD τ sig (Elt F) Λ₀ .tc) α} {k : α → Prog (TpuEff nD τ sig (Elt F) Λ₀ .tc) β} {P R : sProp 𝕄} {Q : β → sProp 𝕄}
    (h : P ⊢ WP c p (fun _ => R)) (hk : ∀ a, R ⊢ WP c (k a) Q) : P ⊢ WP c (p >>= k) Q := by
  unfold WP at *; rw [wp_bind]; exact h.trans (wp_mono _ _ _ hk)
/-- One part after another, the second at the value handed on. -/
theorem then_eq {α β : Type} {p : Prog (TpuEff nD τ sig (Elt F) Λ₀ .tc) α} {k : α → Prog (TpuEff nD τ sig (Elt F) Λ₀ .tc) β} {φ : α → Prop} {P R : sProp 𝕄} {Q : β → sProp 𝕄}
    (h : P ⊢ WP c p (fun a => iprop(⌜φ a⌝ ∗ R))) (hk : ∀ a, φ a → R ⊢ WP c (k a) Q) : P ⊢ WP c (p >>= k) Q := by
  unfold WP at *; rw [wp_bind]
  refine h.trans (wp_mono _ _ _ fun a => ?_)
  iintro ⟨%ha, H⟩
  iapply (hk a ha) $$ H

/-- The first part asks for the device it runs on. -/
theorem part_1 :
    St m c K 0 0 0 false 0 0 false false 0 0 0 ⊢ WP c (bufs (k0_part1 (F := F))) (fun a => iprop(⌜a.1 = c⌝ ∗ St m c K 0 0 0 false 0 0 false false 0 0 0)) := by
  unfold bufs
  rw [k0_part1_eq_skeleton]; unfold k0_part1_skel
  simp only [Prog.lift, Prog.bind_op, Prog.bind_ret, Prog.pure_eq_ret, WP, wp_deviceId]
  exact ret_eq rfl

theorem part_2 (v19 : BitVec 32) (v20 : BitVec 32) (v37 : BitVec 32) (c2_i32_12 : BitVec 32) (v38 : BitVec 1) (c1_i32_14 : BitVec 32) :
    St m c K 0 0 0 false 0 0 false false 0 0 0 ⊢ WP c (bufs (k0_part2 (F := F)) c v19 v20 v37 c2_i32_12 v38 c1_i32_14) (fun _ => St m c K 2 0 0 false 0 0 false false 0 0 0) := by
  unfold bufs
  rw [k0_part2_eq_skeleton]; unfold k0_part2_skel
  simp only [semSignalWord, semWaitWord, Prog.lift, Prog.bind_op, Prog.bind_ret, Prog.pure_eq_ret]
  refine step_copy m 0 (wSrc_of (off1_eq c 0) _ _) rfl rfl rfl (by decide) ?_
  refine step_copy m 1 (wSrc_of (off1_eq c 1) _ _) rfl rfl rfl (by decide) ?_
  exact ret_of

theorem part_3 (v19 : BitVec 32) (v37 : BitVec 32) (v69 : BitVec 32) (v70 : BitVec 32) (v71 : BitVec 32) :
    St m c K 2 0 0 false 0 0 false false 0 0 0 ⊢ WP c (bufs (k0_part3 (F := F)) c v19 v37 v69 v70 v71) (fun _ => St m c K 5 0 0 false 0 0 false false 0 0 0) := by
  unfold bufs
  rw [k0_part3_eq_skeleton]; unfold k0_part3_skel
  simp only [semSignalWord, semWaitWord, Prog.lift, Prog.bind_op, Prog.bind_ret, Prog.pure_eq_ret]
  refine step_copy m 2 (wSrc_of (off1_eq c 2) _ _) rfl rfl rfl (by decide) ?_
  refine step_copy m 3 (wSrc_of (off1_eq c 3) _ _) rfl rfl rfl (by decide) ?_
  refine step_copy m 4 (wSrc_of (off1_eq c 4) _ _) rfl rfl rfl (by decide) ?_
  exact ret_of

theorem part_4 (v2 : BitVec 32) (v19 : BitVec 32) (v37 : BitVec 32) (v100 : BitVec 32) (v101 : BitVec 32) :
    St m c K 5 0 0 false 0 0 false false 0 0 0 ⊢ WP c (bufs (k0_part4 (F := F)) c v2 v19 v37 v100 v101) (fun a => iprop(⌜a.1 = (SemArray.scalar (sig.barrier 0 rfl))⌝ ∗ St m c K 8 0 0 false 0 0 false false 0 0 0)) := by
  unfold bufs
  rw [k0_part4_eq_skeleton]; unfold k0_part4_skel
  simp only [semSignalWord, semWaitWord, Prog.lift, Prog.bind_op, Prog.bind_ret, Prog.pure_eq_ret]
  refine step_copy m 5 (wSrc_of (off1_eq c 5) _ _) rfl rfl rfl (by decide) ?_
  refine step_copy m 6 (wSrc_of (off1_eq c 6) _ _) rfl rfl rfl (by decide) ?_
  refine step_copy m 7 (wSrc_of (off1_eq c 7) _ _) rfl rfl rfl (by decide) ?_
  exact ret_eq rfl

theorem part_5 (v2 : BitVec 32) (v131 : BitVec 32) :
    St m c K 8 0 0 false 0 0 false false 0 0 0 ⊢ WP c (bufs (k0_part5 (F := F)) c v2 (SemArray.scalar (sig.barrier 0 rfl)) v131) (fun _ => St m c K 8 0 6 false 0 0 false false 0 0 0) := by
  unfold bufs
  rw [k0_part5_eq_skeleton]; unfold k0_part5_skel
  simp only [semSignalWord, semWaitWord, Prog.lift, Prog.bind_op, Prog.bind_ret, Prog.pure_eq_ret]
  refine step_signal m 1 (k0_dev1_eq c) rfl (by decide) rfl ?_
  refine step_signal m 2 (k0_dev2_eq c) rfl (by decide) rfl ?_
  refine step_signal m 3 (k0_dev3_eq c) rfl (by decide) rfl ?_
  refine step_signal m 4 (k0_dev4_eq c) rfl (by decide) rfl ?_
  refine step_signal m 5 (k0_dev5_eq c) rfl (by decide) rfl ?_
  refine step_signal m 6 (k0_dev6_eq c) rfl (by decide) rfl ?_
  exact ret_of

theorem part_6 (v2 : BitVec 32) (v155 : BitVec 32) :
    St m c K 8 0 6 false 0 0 false false 0 0 0 ⊢ WP c (bufs (k0_part6 (F := F)) c v2 (SemArray.scalar (sig.barrier 0 rfl)) v155) (fun _ => St m c K 8 0 12 false 0 0 false false 0 0 0) := by
  unfold bufs
  rw [k0_part6_eq_skeleton]; unfold k0_part6_skel
  simp only [semSignalWord, semWaitWord, Prog.lift, Prog.bind_op, Prog.bind_ret, Prog.pure_eq_ret]
  refine step_signal m 7 (k0_dev7_eq c) rfl (by decide) rfl ?_
  refine step_signal m 8 (k0_dev8_eq c) rfl (by decide) rfl ?_
  refine step_signal m 9 (k0_dev9_eq c) rfl (by decide) rfl ?_
  refine step_signal m 10 (k0_dev10_eq c) rfl (by decide) rfl ?_
  refine step_signal m 11 (k0_dev11_eq c) rfl (by decide) rfl ?_
  refine step_signal m 12 (k0_dev12_eq c) rfl (by decide) rfl ?_
  exact ret_of

theorem part_7 (v2 : BitVec 32) (v19 : BitVec 32) (v179 : BitVec 32) :
    St m c K 8 0 12 false 0 0 false false 0 0 0 ⊢ WP c (bufs (k0_part7 (F := F)) c v2 v19 (SemArray.scalar (sig.barrier 0 rfl)) v179) (fun a => iprop(⌜a.1 = (k0_pay2 (xs m c))⌝ ∗ St m c K 8 1 15 false 0 1 false false 0 0 0)) := by
  unfold bufs
  rw [k0_part7_eq_skeleton]; unfold k0_part7_skel
  simp only [semSignalWord, semWaitWord, Prog.lift, Prog.bind_op, Prog.bind_ret, Prog.pure_eq_ret]
  refine step_signal m 13 (k0_dev13_eq c) rfl (by decide) rfl ?_
  refine step_signal m 14 (k0_dev14_eq c) rfl (by decide) rfl ?_
  refine step_signal m 15 (k0_dev15_eq c) rfl (by decide) rfl ?_
  refine step_x m ?_
  rw [read_x]
  refine step_copied m 0 rfl rfl (by decide) rfl ?_
  refine step_block m 0 rfl (by decide) ?_
  refine step_yload m 0 rfl rfl fun _ => ?_
  refine step_ystore m 0 rfl rfl rfl (by decide) ?_
  exact ret_eq rfl

theorem part_8 (v20 : BitVec 32) (v47 : BitVec 32) (v192 : BitVec 32) :
    St m c K 8 1 15 false 0 1 false false 0 0 0 ⊢ WP c (bufs (k0_part8 (F := F)) c v20 v47 (SemArray.scalar (sig.barrier 0 rfl)) v192) (fun _ => St m c K 8 1 15 true 1 1 false false 0 0 0) := by
  unfold bufs
  rw [k0_part8_eq_skeleton]; unfold k0_part8_skel
  simp only [semSignalWord, semWaitWord, Prog.lift, Prog.bind_op, Prog.bind_ret, Prog.pure_eq_ret]
  refine step_barrier m rfl rfl rfl ?_ rfl
  refine step_send m 0 (yHalf_of (off3_eq c 0) _ _ _) rfl (dev16_eq c) rfl rfl (by decide) rfl (by decide) (by decide) rfl ?_
  exact ret_of

theorem part_9 (v20 : BitVec 32) (v47 : BitVec 32) (v192 : BitVec 32) :
    St m c K 8 1 15 true 1 1 false false 0 0 0 ⊢ WP c (bufs (k0_part9 (F := F)) c v20 v47 (k0_pay2 (xs m c)) v192) (fun _ => St m c K 8 2 15 true 2 2 false false 0 0 0) := by
  unfold bufs
  rw [k0_part9_eq_skeleton]; unfold k0_part9_skel
  simp only [semSignalWord, semWaitWord, Prog.lift, Prog.bind_op, Prog.bind_ret, Prog.pure_eq_ret]
  refine step_send m 1 (yHalf_of (off3_eq c 1) _ _ _) rfl (dev17_eq c) rfl rfl (by decide) rfl (by decide) (by decide) rfl ?_
  refine step_copied m 1 rfl rfl (by decide) rfl ?_
  refine step_block m 1 rfl (by decide) ?_
  refine step_yload m 1 rfl rfl fun _ => ?_
  refine step_ystore m 1 rfl rfl rfl (by decide) ?_
  exact ret_of

theorem part_10 (v19 : BitVec 32) (v20 : BitVec 32) (v47 : BitVec 32) (v192 : BitVec 32) :
    St m c K 8 2 15 true 2 2 false false 0 0 0 ⊢ WP c (bufs (k0_part10 (F := F)) c v19 v20 v47 (k0_pay2 (xs m c)) v192) (fun a => iprop(⌜a.2.2 = (k0_pay5 (k0_pay2 (xs m c)) (wBlk m c 2))⌝ ∗ St m c K 8 3 15 true 4 2 false false 0 0 0)) := by
  unfold bufs
  rw [k0_part10_eq_skeleton]; unfold k0_part10_skel
  simp only [semSignalWord, semWaitWord, Prog.lift, Prog.bind_op, Prog.bind_ret, Prog.pure_eq_ret]
  refine step_send m 2 (yHalf_of (off4_eq c 0) _ _ _) rfl (dev18_eq c) rfl rfl (by decide) rfl (by decide) (by decide) rfl ?_
  refine step_send m 3 (yHalf_of (off4_eq c 1) _ _ _) rfl (dev19_eq c) rfl rfl (by decide) rfl (by decide) (by decide) rfl ?_
  refine step_copied m 2 rfl rfl (by decide) rfl ?_
  refine step_block m 2 rfl (by decide) ?_
  exact ret_eq rfl

theorem part_11 (v20 : BitVec 32) (v47 : BitVec 32) (v286 : BitVec 32) :
    St m c K 8 3 15 true 4 2 false false 0 0 0 ⊢ WP c (bufs (k0_part11 (F := F)) c v20 v47 v286 (k0_pay5 (k0_pay2 (xs m c)) (wBlk m c 2))) (fun _ => St m c K 8 3 15 true 5 3 false false 0 0 0) := by
  unfold bufs
  rw [k0_part11_eq_skeleton]; unfold k0_part11_skel
  simp only [semSignalWord, semWaitWord, Prog.lift, Prog.bind_op, Prog.bind_ret, Prog.pure_eq_ret]
  refine step_yload m 2 rfl rfl fun _ => ?_
  refine step_ystore m 2 rfl rfl rfl (by decide) ?_
  refine step_send m 4 (yHalf_of (off5_eq c 0) _ _ _) rfl (dev20_eq c) rfl rfl (by decide) rfl (by decide) (by decide) rfl ?_
  exact ret_of

theorem part_12 (v20 : BitVec 32) (v47 : BitVec 32) (v286 : BitVec 32) :
    St m c K 8 3 15 true 5 3 false false 0 0 0 ⊢ WP c (bufs (k0_part12 (F := F)) c v20 v47 (k0_pay2 (xs m c)) v286) (fun _ => St m c K 8 4 15 true 6 4 false false 0 0 0) := by
  unfold bufs
  rw [k0_part12_eq_skeleton]; unfold k0_part12_skel
  simp only [semSignalWord, semWaitWord, Prog.lift, Prog.bind_op, Prog.bind_ret, Prog.pure_eq_ret]
  refine step_send m 5 (yHalf_of (off5_eq c 1) _ _ _) rfl (dev21_eq c) rfl rfl (by decide) rfl (by decide) (by decide) rfl ?_
  refine step_copied m 3 rfl rfl (by decide) rfl ?_
  refine step_block m 3 rfl (by decide) ?_
  refine step_yload m 3 rfl rfl fun _ => ?_
  refine step_ystore m 3 rfl rfl rfl (by decide) ?_
  exact ret_of

theorem part_13 (v19 : BitVec 32) (v20 : BitVec 32) (v47 : BitVec 32) (v286 : BitVec 32) :
    St m c K 8 4 15 true 6 4 false false 0 0 0 ⊢ WP c (bufs (k0_part13 (F := F)) c v19 v20 v47 v286) (fun _ => St m c K 8 4 15 true 8 4 false false 0 0 0) := by
  unfold bufs
  rw [k0_part13_eq_skeleton]; unfold k0_part13_skel
  simp only [semSignalWord, semWaitWord, Prog.lift, Prog.bind_op, Prog.bind_ret, Prog.pure_eq_ret]
  refine step_send m 6 (yHalf_of (off6_eq c 0) _ _ _) rfl (dev22_eq c) rfl rfl (by decide) rfl (by decide) (by decide) rfl ?_
  refine step_send m 7 (yHalf_of (off6_eq c 1) _ _ _) rfl (dev23_eq c) rfl rfl (by decide) rfl (by decide) (by decide) rfl ?_
  exact ret_of

theorem part_14 (v20 : BitVec 32) (v47 : BitVec 32) (v380 : BitVec 32) :
    St m c K 8 4 15 true 8 4 false false 0 0 0 ⊢ WP c (bufs (k0_part14 (F := F)) c v20 v47 (k0_pay2 (xs m c)) v380) (fun _ => St m c K 8 5 15 true 9 5 false false 0 0 0) := by
  unfold bufs
  rw [k0_part14_eq_skeleton]; unfold k0_part14_skel
  simp only [semSignalWord, semWaitWord, Prog.lift, Prog.bind_op, Prog.bind_ret, Prog.pure_eq_ret]
  refine step_copied m 4 rfl rfl (by decide) rfl ?_
  refine step_block m 4 rfl (by decide) ?_
  refine step_yload m 4 rfl rfl fun _ => ?_
  refine step_ystore m 4 rfl rfl rfl (by decide) ?_
  refine step_send m 8 (yHalf_of (off7_eq c 0) _ _ _) rfl (dev24_eq c) rfl rfl (by decide) rfl (by decide) (by decide) rfl ?_
  exact ret_of

theorem part_15 (v20 : BitVec 32) (v47 : BitVec 32) (v380 : BitVec 32) (v414 : BitVec 32) :
    St m c K 8 5 15 true 9 5 false false 0 0 0 ⊢ WP c (bufs (k0_part15 (F := F)) c v20 v47 (k0_pay2 (xs m c)) v380 v414) (fun _ => St m c K 8 6 15 true 10 6 false false 0 0 0) := by
  unfold bufs
  rw [k0_part15_eq_skeleton]; unfold k0_part15_skel
  simp only [semSignalWord, semWaitWord, Prog.lift, Prog.bind_op, Prog.bind_ret, Prog.pure_eq_ret]
  refine step_send m 9 (yHalf_of (off7_eq c 1) _ _ _) rfl (dev25_eq c) rfl rfl (by decide) rfl (by decide) (by decide) rfl ?_
  refine step_copied m 5 rfl rfl (by decide) rfl ?_
  refine step_block m 5 rfl (by decide) ?_
  refine step_yload m 5 rfl rfl fun _ => ?_
  refine step_ystore m 5 rfl rfl rfl (by decide) ?_
  exact ret_of

theorem part_16 (v19 : BitVec 32) (v20 : BitVec 32) (v47 : BitVec 32) (v380 : BitVec 32) (v444 : BitVec 32) :
    St m c K 8 6 15 true 10 6 false false 0 0 0 ⊢ WP c (bufs (k0_part16 (F := F)) c v19 v20 v47 v380 v444) (fun _ => St m c K 8 6 15 true 13 6 false false 0 0 0) := by
  unfold bufs
  rw [k0_part16_eq_skeleton]; unfold k0_part16_skel
  simp only [semSignalWord, semWaitWord, Prog.lift, Prog.bind_op, Prog.bind_ret, Prog.pure_eq_ret]
  refine step_send m 10 (yHalf_of (off8_eq c 0) _ _ _) rfl (dev26_eq c) rfl rfl (by decide) rfl (by decide) (by decide) rfl ?_
  refine step_send m 11 (yHalf_of (off8_eq c 1) _ _ _) rfl (dev27_eq c) rfl rfl (by decide) rfl (by decide) (by decide) rfl ?_
  exact ret_of

theorem part_17 (v2 : BitVec 32) (v20 : BitVec 32) (v47 : BitVec 32) (v474 : BitVec 32) :
    St m c K 8 6 15 true 13 6 false false 0 0 0 ⊢ WP c (bufs (k0_part17 (F := F)) c v2 v20 v47 (k0_pay2 (xs m c)) v474) (fun _ => St m c K 8 7 15 true 13 7 true true 0 0 0) := by
  unfold bufs
  rw [k0_part17_eq_skeleton]; unfold k0_part17_skel
  simp only [semSignalWord, semWaitWord, Prog.lift, Prog.bind_op, Prog.bind_ret, Prog.pure_eq_ret]
  refine step_copied m 6 rfl rfl (by decide) rfl ?_
  refine step_block m 6 rfl (by decide) ?_
  refine step_yload m 6 rfl rfl fun _ => ?_
  refine step_ystore m 6 rfl rfl rfl (by decide) ?_
  refine step_rawload m fun _ => ?_
  refine step_rawstore m rfl rfl ?_
  refine step_own m (off9_eq c) rfl ?_
  refine step_outload m fun _ => ?_
  refine step_outstore m 12 true 0 (off10_eq c) rfl (done_own 0) ?_
  exact ret_of

theorem part_18 (v20 : BitVec 32) (v47 : BitVec 32) (v474 : BitVec 32) (v504 : BitVec 32) :
    St m c K 8 7 15 true 13 7 true true 0 0 0 ⊢ WP c (bufs (k0_part18 (F := F)) c v20 v47 (k0_pay2 (xs m c)) v474 v504) (fun _ => St m c K 8 8 15 true 14 8 true true 0 0 0) := by
  unfold bufs
  rw [k0_part18_eq_skeleton]; unfold k0_part18_skel
  simp only [semSignalWord, semWaitWord, Prog.lift, Prog.bind_op, Prog.bind_ret, Prog.pure_eq_ret]
  refine step_send m 13 (yHalf_of (off11_eq c) _ _ _) rfl (dev28_eq c) rfl rfl (by decide) rfl (by decide) (by decide) rfl ?_
  refine step_copied m 7 rfl rfl (by decide) rfl ?_
  refine step_block m 7 rfl (by decide) ?_
  refine step_yload m 7 rfl rfl fun _ => ?_
  refine step_ystore m 7 rfl rfl rfl (by decide) ?_
  exact ret_of

theorem part_19 (v20 : BitVec 32) (v47 : BitVec 32) (v474 : BitVec 32) (v534 : BitVec 32) :
    St m c K 8 8 15 true 14 8 true true 0 0 0 ⊢ WP c (bufs (k0_part19 (F := F)) c v20 v47 v474 v534) (fun _ => St m c K 8 8 15 true 16 8 true true 0 0 0) := by
  unfold bufs
  rw [k0_part19_eq_skeleton]; unfold k0_part19_skel
  simp only [semSignalWord, semWaitWord, Prog.lift, Prog.bind_op, Prog.bind_ret, Prog.pure_eq_ret]
  refine step_send m 14 (yHalf_of (off12_eq c 0) _ _ _) rfl (dev29_eq c) rfl rfl (by decide) rfl (by decide) (by decide) rfl ?_
  refine step_send m 15 (yHalf_of (off12_eq c 1) _ _ _) rfl (dev30_eq c) rfl rfl (by decide) rfl (by decide) (by decide) rfl ?_
  exact ret_of

theorem part_20 (v19 : BitVec 32) (v20 : BitVec 32) (v210 : BitVec 32) :
    St m c K 8 8 15 true 16 8 true true 0 0 0 ⊢ WP c (bufs (k0_part20 (F := F)) c v19 v20 v210) (fun _ => St m c K 8 8 15 true 16 8 true true 1 1 1) := by
  unfold bufs
  rw [k0_part20_eq_skeleton]; unfold k0_part20_skel
  simp only [semSignalWord, semWaitWord, Prog.lift, Prog.bind_op, Prog.bind_ret, Prog.pure_eq_ret]
  refine step_sent m 0 rfl rfl (by decide) rfl rfl rfl ?_
  refine step_received m 0 rfl rfl (by decide) rfl rfl rfl ?_
  refine step_rload m 0 rfl (by decide) (by decide) ?_
  refine step_outload m fun _ => ?_
  refine step_outstore m 0 true (after 0) (off13_eq c 0 (by decide)) (piece_eq m c 0 (by decide)) (done_next 0 (by decide)) ?_
  exact ret_of

theorem part_21 (v19 : BitVec 32) (v20 : BitVec 32) (v226 : BitVec 32) :
    St m c K 8 8 15 true 16 8 true true 1 1 1 ⊢ WP c (bufs (k0_part21 (F := F)) c v19 v20 v226) (fun _ => St m c K 8 8 15 true 16 8 true true 2 2 2) := by
  unfold bufs
  rw [k0_part21_eq_skeleton]; unfold k0_part21_skel
  simp only [semSignalWord, semWaitWord, Prog.lift, Prog.bind_op, Prog.bind_ret, Prog.pure_eq_ret]
  refine step_sent m 1 rfl rfl (by decide) rfl rfl rfl ?_
  refine step_received m 1 rfl rfl (by decide) rfl rfl rfl ?_
  refine step_rload m 1 rfl (by decide) (by decide) ?_
  refine step_outload m fun _ => ?_
  refine step_outstore m 1 true (after 1) (off13_eq c 1 (by decide)) (piece_eq m c 1 (by decide)) (done_next 1 (by decide)) ?_
  exact ret_of

theorem part_22 (v19 : BitVec 32) (v20 : BitVec 32) (v256 : BitVec 32) :
    St m c K 8 8 15 true 16 8 true true 2 2 2 ⊢ WP c (bufs (k0_part22 (F := F)) c v19 v20 v256) (fun _ => St m c K 8 8 15 true 16 8 true true 3 3 3) := by
  unfold bufs
  rw [k0_part22_eq_skeleton]; unfold k0_part22_skel
  simp only [semSignalWord, semWaitWord, Prog.lift, Prog.bind_op, Prog.bind_ret, Prog.pure_eq_ret]
  refine step_sent m 2 rfl rfl (by decide) rfl rfl rfl ?_
  refine step_received m 2 rfl rfl (by decide) rfl rfl rfl ?_
  refine step_rload m 2 rfl (by decide) (by decide) ?_
  refine step_outload m fun _ => ?_
  refine step_outstore m 2 true (after 2) (off13_eq c 2 (by decide)) (piece_eq m c 2 (by decide)) (done_next 2 (by decide)) ?_
  exact ret_of

theorem part_23 (v19 : BitVec 32) (v20 : BitVec 32) (v272 : BitVec 32) :
    St m c K 8 8 15 true 16 8 true true 3 3 3 ⊢ WP c (bufs (k0_part23 (F := F)) c v19 v20 v272) (fun _ => St m c K 8 8 15 true 16 8 true true 4 4 4) := by
  unfold bufs
  rw [k0_part23_eq_skeleton]; unfold k0_part23_skel
  simp only [semSignalWord, semWaitWord, Prog.lift, Prog.bind_op, Prog.bind_ret, Prog.pure_eq_ret]
  refine step_sent m 3 rfl rfl (by decide) rfl rfl rfl ?_
  refine step_received m 3 rfl rfl (by decide) rfl rfl rfl ?_
  refine step_rload m 3 rfl (by decide) (by decide) ?_
  refine step_outload m fun _ => ?_
  refine step_outstore m 3 true (after 3) (off13_eq c 3 (by decide)) (piece_eq m c 3 (by decide)) (done_next 3 (by decide)) ?_
  exact ret_of

theorem part_24 (v19 : BitVec 32) (v20 : BitVec 32) (v304 : BitVec 32) :
    St m c K 8 8 15 true 16 8 true true 4 4 4 ⊢ WP c (bufs (k0_part24 (F := F)) c v19 v20 v304) (fun _ => St m c K 8 8 15 true 16 8 true true 5 5 5) := by
  unfold bufs
  rw [k0_part24_eq_skeleton]; unfold k0_part24_skel
  simp only [semSignalWord, semWaitWord, Prog.lift, Prog.bind_op, Prog.bind_ret, Prog.pure_eq_ret]
  refine step_sent m 4 rfl rfl (by decide) rfl rfl rfl ?_
  refine step_received m 4 rfl rfl (by decide) rfl rfl rfl ?_
  refine step_rload m 4 rfl (by decide) (by decide) ?_
  refine step_outload m fun _ => ?_
  refine step_outstore m 4 true (after 4) (off13_eq c 4 (by decide)) (piece_eq m c 4 (by decide)) (done_next 4 (by decide)) ?_
  exact ret_of

theorem part_25 (v19 : BitVec 32) (v20 : BitVec 32) (v320 : BitVec 32) :
    St m c K 8 8 15 true 16 8 true true 5 5 5 ⊢ WP c (bufs (k0_part25 (F := F)) c v19 v20 v320) (fun a => iprop(⌜a = (k0_pay19 (yPart m (src c 5) 5))⌝ ∗ St m c K 8 8 15 true 16 8 true true 6 6 5)) := by
  unfold bufs
  rw [k0_part25_eq_skeleton]; unfold k0_part25_skel
  simp only [semSignalWord, semWaitWord, Prog.lift, Prog.bind_op, Prog.bind_ret, Prog.pure_eq_ret]
  refine step_sent m 5 rfl rfl (by decide) rfl rfl rfl ?_
  refine step_received m 5 rfl rfl (by decide) rfl rfl rfl ?_
  refine step_rload m 5 rfl (by decide) (by decide) ?_
  refine step_outload m fun _ => ?_
  exact ret_eq rfl

theorem part_26 (v19 : BitVec 32) (v20 : BitVec 32) (v350 : BitVec 32) :
    St m c K 8 8 15 true 16 8 true true 6 6 5 ⊢ WP c (bufs (k0_part26 (F := F)) c v19 v20 v350 (k0_pay19 (yPart m (src c 5) 5))) (fun a => iprop(⌜a = (k0_pay20 (yPart m (src c 6) 6))⌝ ∗ St m c K 8 8 15 true 16 8 true true 7 7 6)) := by
  unfold bufs
  rw [k0_part26_eq_skeleton]; unfold k0_part26_skel
  simp only [semSignalWord, semWaitWord, Prog.lift, Prog.bind_op, Prog.bind_ret, Prog.pure_eq_ret]
  refine step_outstore m 5 true (after 5) (off13_eq c 5 (by decide)) (piece_eq m c 5 (by decide)) (done_next 5 (by decide)) ?_
  refine step_sent m 6 rfl rfl (by decide) rfl rfl rfl ?_
  refine step_received m 6 rfl rfl (by decide) rfl rfl rfl ?_
  refine step_rload m 6 rfl (by decide) (by decide) ?_
  exact ret_eq rfl

theorem part_27 (v19 : BitVec 32) (v20 : BitVec 32) (v366 : BitVec 32) :
    St m c K 8 8 15 true 16 8 true true 7 7 6 ⊢ WP c (bufs (k0_part27 (F := F)) c v19 v20 v366 (k0_pay20 (yPart m (src c 6) 6))) (fun a => iprop(⌜a.2.1 = (k0_pay21 (yPart m (src c 7) 7))⌝ ∗ St m c K 8 8 15 true 16 8 true true 8 8 7)) := by
  unfold bufs
  rw [k0_part27_eq_skeleton]; unfold k0_part27_skel
  simp only [semSignalWord, semWaitWord, Prog.lift, Prog.bind_op, Prog.bind_ret, Prog.pure_eq_ret]
  refine step_outload m fun _ => ?_
  refine step_outstore m 6 true (after 6) (off13_eq c 6 (by decide)) (piece_eq m c 6 (by decide)) (done_next 6 (by decide)) ?_
  refine step_sent m 7 rfl rfl (by decide) rfl rfl rfl ?_
  refine step_received m 7 rfl rfl (by decide) rfl rfl rfl ?_
  refine step_rload m 7 rfl (by decide) (by decide) ?_
  exact ret_eq rfl

theorem part_28 (v19 : BitVec 32) (v20 : BitVec 32) (v398 : BitVec 32) (v778 : BitVec 32) (c256_i32_722 : BitVec 32) :
    St m c K 8 8 15 true 16 8 true true 8 8 7 ⊢ WP c (bufs (k0_part28 (F := F)) c v19 v20 v398 v778 (k0_pay21 (yPart m (src c 7) 7)) c256_i32_722) (fun a => iprop(⌜a.2 = (k0_pay22 (yPart m (src c 8) 8))⌝ ∗ St m c K 8 8 15 true 16 8 true true 9 9 8)) := by
  unfold bufs
  rw [k0_part28_eq_skeleton]; unfold k0_part28_skel
  simp only [semSignalWord, semWaitWord, Prog.lift, Prog.bind_op, Prog.bind_ret, Prog.pure_eq_ret]
  refine step_outload m fun _ => ?_
  refine step_outstore m 7 true (after 7) (off13_eq c 7 (by decide)) (piece_eq m c 7 (by decide)) (done_next 7 (by decide)) ?_
  refine step_sent m 8 rfl rfl (by decide) rfl rfl rfl ?_
  refine step_received m 8 rfl rfl (by decide) rfl rfl rfl ?_
  refine step_rload m 8 rfl (by decide) (by decide) ?_
  exact ret_eq rfl

theorem part_29 (v19 : BitVec 32) (v20 : BitVec 32) (v414 : BitVec 32) (v806 : BitVec 32) :
    St m c K 8 8 15 true 16 8 true true 9 9 8 ⊢ WP c (bufs (k0_part29 (F := F)) c v19 v20 v414 v806 (k0_pay22 (yPart m (src c 8) 8))) (fun _ => St m c K 8 8 15 true 16 8 true true 10 10 9) := by
  unfold bufs
  rw [k0_part29_eq_skeleton]; unfold k0_part29_skel
  simp only [semSignalWord, semWaitWord, Prog.lift, Prog.bind_op, Prog.bind_ret, Prog.pure_eq_ret]
  refine step_outload m fun _ => ?_
  refine step_outstore m 8 true (after 8) (off13_eq c 8 (by decide)) (piece_eq m c 8 (by decide)) (done_next 8 (by decide)) ?_
  refine step_sent m 9 rfl rfl (by decide) rfl rfl rfl ?_
  refine step_received m 9 rfl rfl (by decide) rfl rfl rfl ?_
  exact ret_of

theorem part_30 (v19 : BitVec 32) (v20 : BitVec 32) (v444 : BitVec 32) (v834 : BitVec 32) :
    St m c K 8 8 15 true 16 8 true true 10 10 9 ⊢ WP c (bufs (k0_part30 (F := F)) c v19 v20 v444 v834) (fun _ => St m c K 8 8 15 true 16 8 true true 11 11 10) := by
  unfold bufs
  rw [k0_part30_eq_skeleton]; unfold k0_part30_skel
  simp only [semSignalWord, semWaitWord, Prog.lift, Prog.bind_op, Prog.bind_ret, Prog.pure_eq_ret]
  refine step_rload m 9 rfl (by decide) (by decide) ?_
  refine step_outload m fun _ => ?_
  refine step_outstore m 9 true (after 9) (off13_eq c 9 (by decide)) (piece_eq m c 9 (by decide)) (done_next 9 (by decide)) ?_
  refine step_sent m 10 rfl rfl (by decide) rfl rfl rfl ?_
  refine step_received m 10 rfl rfl (by decide) rfl rfl rfl ?_
  exact ret_of

theorem part_31 (v19 : BitVec 32) (v20 : BitVec 32) (v460 : BitVec 32) (v862 : BitVec 32) :
    St m c K 8 8 15 true 16 8 true true 11 11 10 ⊢ WP c (bufs (k0_part31 (F := F)) c v19 v20 v460 v862) (fun _ => St m c K 8 8 15 true 16 8 true true 13 13 11) := by
  unfold bufs
  rw [k0_part31_eq_skeleton]; unfold k0_part31_skel
  simp only [semSignalWord, semWaitWord, Prog.lift, Prog.bind_op, Prog.bind_ret, Prog.pure_eq_ret]
  refine step_rload m 10 rfl (by decide) (by decide) ?_
  refine step_outload m fun _ => ?_
  refine step_outstore m 10 true (after 10) (off13_eq c 10 (by decide)) (piece_eq m c 10 (by decide)) (done_next 10 (by decide)) ?_
  refine step_sent m 11 rfl rfl (by decide) rfl rfl rfl ?_
  refine step_received m 11 rfl rfl (by decide) rfl rfl rfl ?_
  exact ret_of

theorem part_32 (v19 : BitVec 32) (v20 : BitVec 32) (v502 : BitVec 32) (v888 : BitVec 32) (v889 : BitVec 32) :
    St m c K 8 8 15 true 16 8 true true 13 13 11 ⊢ WP c (bufs (k0_part32 (F := F)) c v19 v20 v502 v888 v889) (fun _ => St m c K 8 8 15 true 16 8 true true 14 14 13) := by
  unfold bufs
  rw [k0_part32_eq_skeleton]; unfold k0_part32_skel
  simp only [semSignalWord, semWaitWord, Prog.lift, Prog.bind_op, Prog.bind_ret, Prog.pure_eq_ret]
  refine step_rload m 11 rfl (by decide) (by decide) ?_
  refine step_outload m fun _ => ?_
  refine step_outstore m 11 true (after 11) (off13_eq c 11 (by decide)) (piece_eq m c 11 (by decide)) (done_next 11 (by decide)) ?_
  refine step_sent m 13 rfl rfl (by decide) rfl rfl rfl ?_
  refine step_received m 13 rfl rfl (by decide) rfl rfl rfl ?_
  exact ret_of

theorem part_33 (v19 : BitVec 32) (v532 : BitVec 32) (v915 : BitVec 32) (v916 : BitVec 32) :
    St m c K 8 8 15 true 16 8 true true 14 14 13 ⊢ WP c (bufs (k0_part33 (F := F)) c v19 v532 v915 v916) (fun _ => St m c K 8 8 15 true 16 8 true true 15 15 14) := by
  unfold bufs
  rw [k0_part33_eq_skeleton]; unfold k0_part33_skel
  simp only [semSignalWord, semWaitWord, Prog.lift, Prog.bind_op, Prog.bind_ret, Prog.pure_eq_ret]
  refine step_rload m 13 rfl (by decide) (by decide) ?_
  refine step_outload m fun _ => ?_
  refine step_outstore m 13 true (after 13) (off13_eq c 13 (by decide)) (piece_eq m c 13 (by decide)) (done_next 13 (by decide)) ?_
  refine step_sent m 14 rfl rfl (by decide) rfl rfl rfl ?_
  refine step_received m 14 rfl rfl (by decide) rfl rfl rfl ?_
  exact ret_of

theorem part_34 (v19 : BitVec 32) (v20 : BitVec 32) (v548 : BitVec 32) (v943 : BitVec 32) :
    St m c K 8 8 15 true 16 8 true true 15 15 14 ⊢ WP c (bufs (k0_part34 (F := F)) c v19 v20 v548 v943) (fun _ => St m c K 8 8 15 true 16 8 true true 16 16 15) := by
  unfold bufs
  rw [k0_part34_eq_skeleton]; unfold k0_part34_skel
  simp only [semSignalWord, semWaitWord, Prog.lift, Prog.bind_op, Prog.bind_ret, Prog.pure_eq_ret]
  refine step_rload m 14 rfl (by decide) (by decide) ?_
  refine step_outload m fun _ => ?_
  refine step_outstore m 14 true (after 14) (off13_eq c 14 (by decide)) (piece_eq m c 14 (by decide)) (done_next 14 (by decide)) ?_
  refine step_sent m 15 rfl rfl (by decide) rfl rfl rfl ?_
  refine step_received m 15 rfl rfl (by decide) rfl rfl rfl ?_
  exact ret_of

set_option maxHeartbeats 1600000 in
/-- **The body** of a device. From the state where no operation has run it is safe, and it ends in the state where every
    copy, signal, send, receipt and store has. -/
theorem body_runs : St m c K 0 0 0 false 0 0 false false 0 0 0 ⊢ WP c (bufs (cc0_body (F := F))) (fun _ => St m c K 8 8 15 true 16 8 true true 16 16 16) := by
  unfold bufs
  rw [cc0_body_eq_skeleton]; unfold cc0_body_skel
  refine then_eq (part_1 m) ?_
  rintro ⟨d, _, _, _, _, _, _, _⟩ hd
  obtain rfl : c = d := hd.symm
  refine then_of (part_2 m _ _ _ _ _ _) ?_
  rintro ⟨_, _, _, _⟩
  refine then_of (part_3 m _ _ _ _ _) ?_
  rintro ⟨_, _⟩
  refine then_eq (part_4 m _ _ _ _ _) ?_
  rintro ⟨_, _⟩ rfl
  refine then_of (part_5 m _ _) ?_
  rintro _
  refine then_of (part_6 m _ _) ?_
  rintro _
  refine then_eq (part_7 m _ _ _) ?_
  rintro ⟨_, _⟩ rfl
  refine then_of (part_8 m _ _ _) ?_
  rintro ⟨_, _⟩
  refine then_of (part_9 m _ _ _) ?_
  rintro _
  refine then_eq (part_10 m _ _ _ _) ?_
  rintro ⟨_, _, _⟩ rfl
  refine then_of (part_11 m _ _ _) ?_
  rintro ⟨_, _⟩
  refine then_of (part_12 m _ _ _) ?_
  rintro _
  refine then_of (part_13 m _ _ _ _) ?_
  rintro ⟨_, _⟩
  refine then_of (part_14 m _ _ _) ?_
  rintro ⟨_, _⟩
  refine then_of (part_15 m _ _ _ _) ?_
  rintro _
  refine then_of (part_16 m _ _ _ _ _) ?_
  rintro ⟨_, _⟩
  refine then_of (part_17 m _ _ _ _) ?_
  rintro ⟨_, _⟩
  refine then_of (part_18 m _ _ _ _) ?_
  rintro ⟨_, _⟩
  refine then_of (part_19 m _ _ _ _) ?_
  rintro _
  refine then_of (part_20 m _ _ _) ?_
  rintro _
  refine then_of (part_21 m _ _ _) ?_
  rintro _
  refine then_of (part_22 m _ _ _) ?_
  rintro _
  refine then_of (part_23 m _ _ _) ?_
  rintro _
  refine then_of (part_24 m _ _ _) ?_
  rintro _
  refine then_eq (part_25 m _ _ _) ?_
  rintro _ rfl
  refine then_eq (part_26 m _ _ _) ?_
  rintro _ rfl
  refine then_eq (part_27 m _ _ _) ?_
  rintro ⟨_, _, _⟩ rfl
  refine then_eq (part_28 m _ _ _ _ _) ?_
  rintro ⟨_, _⟩ rfl
  refine then_of (part_29 m _ _ _ _) ?_
  rintro _
  refine then_of (part_30 m _ _ _ _) ?_
  rintro _
  refine then_of (part_31 m _ _ _ _) ?_
  rintro ⟨_, _⟩
  refine then_of (part_32 m _ _ _ _ _) ?_
  rintro ⟨_, _⟩
  refine then_of (part_33 m _ _ _ _) ?_
  rintro _
  refine then_of (part_34 m _ _ _ _) ?_
  rintro _
  simp only [Prog.lift, Prog.bind_op, Prog.bind_ret, Prog.pure_eq_ret]
  refine step_rload m 15 rfl (by decide) (by decide) ?_
  refine step_outload m fun _ => ?_
  refine step_outstore m 15 true (after 15) (off13_eq c 15 (by decide)) (piece_eq m c 15 (by decide)) (done_next 15 (by decide)) ?_
  exact ret_of

end Parts

end Cert.KernelIdeal.Exchange

end
-- ==== Proof.KernelIdeal.Ends.lean ====
/-
# The body's two ends

What a device holds at launch is the state of its body before the first operation, and the state after the last one is
what it gives back: `x` and `W` as they were, the result, the scratch buffers, and every semaphore at zero.
-/
module

public import proofs.«01_k».proof.Proof.KernelIdeal.State
public import Idealize.ShloMosaic.Lib.Ring

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks pointsTo_blocks_join_exists)

variable {F : FTy → Type} [FloatOps F]

local notation "𝕄" => MT nD τ sig Unit (Elt F) ℕ UU ℕ

variable (m : (ℓ : Loc nD τ sig) → Buf (Elt F) ℓ)

/-! ## The cells by kind -/

/-- A cell's number: the barrier's, a copy's, a send's or a receive's. -/
def kNum : Fin 1 ⊕ Fin 8 ⊕ Fin 16 ⊕ Fin 16 → Fin 41 := Sum.elim (fun _ => 0) (Sum.elim kCopy (Sum.elim kSend kRecv))
theorem kNum_bijective : Function.Bijective kNum := by decide +kernel

omit [FloatOps F] in
/-- A family over all cells of a device, kind by kind. -/
theorem cells_split (Φ : SemLoc sig → sProp 𝕄) :
    bigSep Finset.univ (fun k : Fin 41 => Φ (csem k))
      = iprop(Φ (.reg barS) ∗ (bigSep Finset.univ fun q => Φ (.dma (copyS q))) ∗ (bigSep Finset.univ fun t => Φ (.dma (sendS t)))
        ∗ bigSep Finset.univ fun t => Φ (.dma (recvS t))) := by
  rw [bigSep_univ_equiv (Equiv.ofBijective kNum kNum_bijective), bigSep_univ_sum, bigSep_univ_sum, bigSep_univ_sum,
    bigSep_univ_of_subsingleton (0 : Fin 1)]
  rfl

/-! ## Families at the two ends -/

omit [FloatOps F] in
/-- All but step 12's member of a family. -/
theorem drop_own (Φ : Fin 16 → sProp 𝕄) : bigSep Finset.univ Φ ⊢ bigSep (Finset.univ.erase 12) Φ :=
  bigSep_subset (Finset.erase_subset _ _)

section Families
variable (c : Dev nD)

theorem rank_own : ∀ c : Dev nD, rank c 12 = 0 := by decide

theorem copies_first : Copies m c 0 0 = iprop((bigSep Finset.univ fun q => iprop(∃ f, bPts (F := F) c q f)) ∗ (bigSep Finset.univ fun q => wPts m c q Finset.univ)
    ∗ (bigSep Finset.univ fun q => dutyTok EX (copyCell c q) 0 0) ∗ bigSep Finset.univ fun q => atPos EX (copyCell c q) 0 ∅ 0) := by
  unfold Copies
  rw [bigSep_congr fun q _ => show copyAt m c 0 0 q = _ from (if_neg (Nat.not_lt_zero _)).trans (if_neg (Nat.not_lt_zero _)),
    bigSep_sep', bigSep_sep', bigSep_sep']
theorem copies_last : Copies m c 8 8 = iprop((bigSep Finset.univ fun q => bPts c q (bFull m c)) ∗ (bigSep Finset.univ fun q => wPts m c q Finset.univ)
    ∗ bigSep Finset.univ fun q => semVal (copyCell c q) 0) := by
  unfold Copies
  rw [bigSep_congr fun q _ => show copyAt m c 8 8 q = _ from if_pos q.isLt, bigSep_sep', bigSep_sep']

theorem signals_first : iprop((bigSep (Finset.univ.erase 12) fun t => dutyTok EX (barCell (src c t)) 0 t) ∗ bigSep (Finset.univ.erase 12) fun t => iprop(∃ f, rPts (F := F) c t f))
    ⊢ Signals (F := F) c 0 := by
  unfold Signals
  rw [bigSep_univ_at _ (12 : Fin 16), show signalAt (F := F) c 0 12 = _ from if_neg (by rw [rank_own]; exact Nat.lt_irrefl _),
    bigSep_congr fun t ht => show signalAt (F := F) c 0 t = _ from if_pos (rank_pos c t (Finset.ne_of_mem_erase ht)), bigSep_sep']
  iintro H
  isplitr; · iempintro
  iexact H

theorem sends_first : Sends m c 0 0 = iprop((bigSep (Finset.univ.erase 12) fun t => dutyTok EX (sendCell c t) 0 0)
    ∗ (bigSep (Finset.univ.erase 12) fun t => dutyTok EX (recvCell (tgt c t) t) 0 0) ∗ bigSep (Finset.univ.erase 12) fun t => atPos EX (sendCell c t) 0 ∅ 0) := by
  unfold Sends
  rw [bigSep_congr fun t _ => show sendAt m c 0 0 t = _ from (if_neg (Nat.not_lt_zero _)).trans (if_neg (Nat.not_lt_zero _)), bigSep_sep', bigSep_sep']
theorem sends_last : Sends m c 16 16 = iprop((bigSep (Finset.univ.erase 12) fun t => hPts m c t) ∗ bigSep (Finset.univ.erase 12) fun t => semVal (sendCell c t) 0) := by
  unfold Sends
  rw [bigSep_congr fun t _ => show sendAt m c 16 16 t = _ from if_pos t.isLt, bigSep_sep']

theorem recvs_first : Recvs m c 0 = iprop((bigSep (Finset.univ.erase 12) fun t => cred (tallyAt (recvCell c t) () NR))
    ∗ bigSep (Finset.univ.erase 12) fun t => atPos EX (recvCell c t) 0 ∅ 0) := by
  unfold Recvs
  rw [bigSep_congr fun t _ => show recvAt m c 0 t = _ from if_neg (Nat.not_lt_zero _), bigSep_sep']
theorem recvs_last : Recvs m c 16 = iprop((bigSep (Finset.univ.erase 12) fun t => rPts c t (rFull m c)) ∗ bigSep (Finset.univ.erase 12) fun t => semVal (recvCell c t) 0) := by
  unfold Recvs
  rw [bigSep_congr fun t _ => show recvAt m c 16 t = _ from if_pos t.isLt, bigSep_sep']

theorem blocks_first : Blocks (F := F) c 0 = bigSep Finset.univ fun q =>
    iprop(∃ f : Buf (Elt F) ((c : Thread nD τ).loc cc0_scratch2), ((c : Thread nD τ).loc cc0_scratch2) ↦[ySlot q]{fullShare} f) := by
  unfold Blocks
  rw [bigSep_congr fun q _ => show blockAt (F := F) c 0 q = _ from if_neg (Nat.not_lt_zero _)]
theorem halves_first : (emp : sProp 𝕄) ⊢ Halves m c 0 0 := by
  unfold Halves
  rw [bigSep_congr fun t _ => show halfAt m c 0 0 t = iprop(emp) from if_neg fun h => Nat.not_lt_zero _ h.1]
  exact Entails.of_eq (bigSep_emp_const _).symm
theorem halves_last : Halves m c 8 16 ⊢ hPts m c 12 := by
  unfold Halves
  iintro H
  ihave H := (show _ ⊢ halfAt m c 8 16 12 from bigSep_elim (Finset.mem_univ (12 : Fin 16))) $$ H
  ihave H := (Entails.of_eq (show halfAt m c 8 16 12 = hPts m c 12 from if_pos ⟨by decide, Or.inr rfl⟩)) $$ H
  iexact H

end Families

/-! ## Buffers in pieces -/

section Buffers
variable (c : Dev nD)

omit [FloatOps F] in
theorem w_leaves : ((((c : Thread nD τ).loc main_arg1) ↦{fullShare} wAll m c) : sProp 𝕄) = bigSep Finset.univ fun q => wPts m c q Finset.univ :=
  ShareLeaves.pointsTo_leaves Finset.univ (wAll m c) 3 fullShare

omit [FloatOps F] in
theorem b_split (f : Buf (Elt F) ((c : Thread nD τ).loc cc0_scratch0)) :
    ((((c : Thread nD τ).loc cc0_scratch0) ↦{fullShare} f) : sProp 𝕄) ⊢ bigSep Finset.univ fun q => iprop(∃ f, bPts (F := F) c q f) := by
  rw [pointsTo_blocks (fun q => bSet q) bSlot_disj bSlot_cover f]
  refine bigSep_mono fun q _ => ?_
  show bPts c q f ⊢ iprop(∃ f, bPts (F := F) c q f)
  iintro H; iexists f; iexact H

omit [FloatOps F] in
theorem y_split (f : Buf (Elt F) ((c : Thread nD τ).loc cc0_scratch2)) :
    ((((c : Thread nD τ).loc cc0_scratch2) ↦{fullShare} f) : sProp 𝕄) ⊢ bigSep Finset.univ fun q =>
      iprop(∃ f : Buf (Elt F) ((c : Thread nD τ).loc cc0_scratch2), ((c : Thread nD τ).loc cc0_scratch2) ↦[ySlot q]{fullShare} f) := by
  rw [pointsTo_blocks (fun q => ySlot q) ySlot_disj ySlot_cover f]
  refine bigSep_mono fun q _ => ?_
  show iprop(((c : Thread nD τ).loc cc0_scratch2) ↦[ySlot q]{fullShare} f) ⊢ iprop(∃ f : Buf (Elt F) ((c : Thread nD τ).loc cc0_scratch2), ((c : Thread nD τ).loc cc0_scratch2) ↦[ySlot q]{fullShare} f)
  iintro H; iexists f; iexact H

omit [FloatOps F] in
theorem r_split (f : Buf (Elt F) ((c : Thread nD τ).loc cc0_scratch3)) :
    ((((c : Thread nD τ).loc cc0_scratch3) ↦{fullShare} f) : sProp 𝕄)
      ⊢ iprop((∃ f, rPts (F := F) c 12 f) ∗ bigSep (Finset.univ.erase 12) fun t => iprop(∃ f, rPts (F := F) c t f)) := by
  rw [pointsTo_blocks (fun t => rSet t) rSlot_disj rSlot_cover f, ← bigSep_univ_at (fun t => iprop(∃ f, rPts (F := F) c t f)) (12 : Fin 16)]
  refine bigSep_mono fun t _ => ?_
  show rPts c t f ⊢ iprop(∃ f, rPts (F := F) c t f)
  iintro H; iexists f; iexact H

theorem b_join : (bigSep Finset.univ fun q => bPts c q (bFull m c)) ⊢ (iprop(∃ f : Buf (Elt F) ((c : Thread nD τ).loc cc0_scratch0), ((c : Thread nD τ).loc cc0_scratch0) ↦{fullShare} f) : sProp 𝕄) := by
  rw [show (bigSep Finset.univ fun q => bPts c q (bFull m c)) = ((((c : Thread nD τ).loc cc0_scratch0) ↦{fullShare} bFull m c) : sProp 𝕄) from
    (pointsTo_blocks (ℓ := (c : Thread nD τ).loc cc0_scratch0) (fun q => bSet q) bSlot_disj bSlot_cover (bFull m c)).symm]
  iintro H; iexists (bFull m c); iexact H

theorem y_join : iprop(hPts m c 12 ∗ bigSep (Finset.univ.erase 12) fun t => hPts m c t)
    ⊢ (iprop(∃ f : Buf (Elt F) ((c : Thread nD τ).loc cc0_scratch2), ((c : Thread nD τ).loc cc0_scratch2) ↦{fullShare} f) : sProp 𝕄) := by
  rw [← bigSep_univ_at (fun t => hPts m c t) (12 : Fin 16)]
  rw [show (bigSep Finset.univ fun t => hPts m c t) = ((((c : Thread nD τ).loc cc0_scratch2) ↦{fullShare} yFull m c) : sProp 𝕄) from
    (pointsTo_blocks (ℓ := (c : Thread nD τ).loc cc0_scratch2) (fun t => yHalfSet c t) (yHalf_disj c) (yHalf_cover c) (yFull m c)).symm]
  iintro H; iexists (yFull m c); iexact H

theorem r_join : iprop((∃ f, rPts (F := F) c 12 f) ∗ bigSep (Finset.univ.erase 12) fun t => rPts c t (rFull m c))
    ⊢ (iprop(∃ f : Buf (Elt F) ((c : Thread nD τ).loc cc0_scratch3), ((c : Thread nD τ).loc cc0_scratch3) ↦{fullShare} f) : sProp 𝕄) := by
  refine (sep_mono_right (bigSep_mono (Ψ := fun t => iprop(∃ f, rPts (F := F) c t f)) fun t _ => (show rPts c t (rFull m c) ⊢ iprop(∃ f, rPts (F := F) c t f) from ?_))).trans ?_
  · iintro H; iexists (rFull m c); iexact H
  · rw [← bigSep_univ_at (fun t => iprop(∃ f, rPts (F := F) c t f)) (12 : Fin 16)]
    exact pointsTo_blocks_join_exists (ℓ := (c : Thread nD τ).loc cc0_scratch3) (fun t => rSet t) rSlot_disj rSlot_cover (rFull m c)

end Buffers

/-! ## The ends -/

section Ends
variable (c : Dev nD)

/-- The tokens of the duties device `c` pays. -/
def payToks : sProp 𝕄 :=
  iprop((bigSep Finset.univ fun q : Fin 8 => dutyTok EX (copyCell c q) 0 0) ∗ (bigSep Finset.univ fun t : Fin 16 => dutyTok EX (barCell (src c t)) 0 t)
    ∗ (bigSep Finset.univ fun t : Fin 16 => dutyTok EX (sendCell c t) 0 0) ∗ bigSep Finset.univ fun t : Fin 16 => dutyTok EX (recvCell (tgt c t) t) 0 0)

/-- The ghost state a device starts from: the records, its positions, its tokens. -/
def ghost (K : Dev nD × Fin 41 → ℕ) : sProp 𝕄 :=
  iprop(Recs m K ∗ (bigSep Finset.univ fun k : Fin 41 => atPos EX (kcell (c, k)) 0 ∅ 0) ∗ payToks (F := F) c)

/-- The credit a device starts from: for the fifteen signals and the fifteen half blocks that come. -/
def credits : sProp 𝕄 :=
  iprop(cred (tallyAt (barCell c) () 15) ∗ bigSep (Finset.univ.erase 12) fun t : Fin 16 => cred (tallyAt (recvCell c t) () NR))

/-- The scratch buffers at some contents. -/
def scratch : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- What the launch gives a device is its state before the first operation; step 12's two cells, which nothing uses, are closed. -/
theorem state_first (K : Dev nD × Fin 41 → ℕ) :
    iprop(ghost m c K ∗ credits (F := F) c ∗ levAts L lv ∗ (((c : Thread nD τ).loc main_arg1) ↦{fullShare} wAll m c) ∗ scratch (F := F) c
        ∗ Owes (F := F) c 0 0 ∗ XPart m c ∗ ∃ f : (cc0_stg1_0 : Ref sig .tc).ty.Contents (Elt F), (((c : Thread nD τ).loc cc0_stg1_0) ↦{fullShare} f))
      ⊢ |={Set.univ}=> St m c K 0 0 0 false 0 0 false false 0 0 0 := by
  unfold ghost credits scratch payToks
  iintro ⟨⟨#HR, Hat, HtC, HtB, HtS, HtV⟩, ⟨HcB, HcV⟩, Hlev, HW, ⟨⟨%f0, H0⟩, ⟨%f1, H1⟩, ⟨%f2, H2⟩, ⟨%f3, H3⟩⟩, HO, HX, ⟨%fo, Ho⟩⟩
  ihave Hat := (Entails.of_eq (cells_split (F := F) fun sm => atPos EX ((c : Thread nD τ), sm) 0 ∅ 0)) $$ Hat
  icases Hat with ⟨HaB, HaC, HaS, HaV⟩
  ihave HaS := (Entails.of_eq (bigSep_univ_at (fun t => (atPos EX (sendCell c t) 0 ∅ 0 : sProp 𝕄)) (12 : Fin 16))) $$ HaS
  icases HaS with ⟨HaS12, HaS⟩
  ihave HaV := (Entails.of_eq (bigSep_univ_at (fun t => (atPos EX (recvCell c t) 0 ∅ 0 : sProp 𝕄)) (12 : Fin 16))) $$ HaV
  icases HaV with ⟨HaV12, HaV⟩
  imod (cell_close EX (Rd m) (g := sendCell c 12) (κ := K (c, kSend 12)) (Set.mem_univ _) (fun h => h) (R := 0) (duties_own m _ rfl)) $$ [HaS12] with Hs12
  · isplitr; · iapply (recs_inv m K c (kSend 12) _ rfl); iexact HR
    iexact HaS12
  imod (cell_close EX (Rd m) (g := recvCell c 12) (κ := K (c, kRecv 12)) (Set.mem_univ _) (fun h => h) (R := 0) (duties_own m _ rfl)) $$ [HaV12] with Hv12
  · isplitr; · iapply (recs_inv m K c (kRecv 12) _ rfl); iexact HR
    iexact HaV12
  imodintro
  ihave H0 := (b_split c f0) $$ H0
  ihave H2 := (y_split c f2) $$ H2
  ihave H3 := (r_split c f3) $$ H3
  icases H3 with ⟨H312, H3⟩
  ihave HW := (Entails.of_eq (w_leaves m c)) $$ HW
  ihave HtB := (drop_own (F := F) fun t => dutyTok EX (barCell (src c t)) 0 t) $$ HtB
  ihave HtS := (drop_own (F := F) fun t => dutyTok EX (sendCell c t) 0 0) $$ HtS
  ihave HtV := (drop_own (F := F) fun t => dutyTok EX (recvCell (tgt c t) t) 0 0) $$ HtV
  unfold St
  rw [copies_first, Bar_before, sends_first, recvs_first, blocks_first]
  unfold Raw Out Fixed
  isplitr; · iexact HR
  isplitl [Hlev]; · iexact Hlev
  isplitl [HX]; · iexact HX
  isplitl [H0 HW HtC HaC]
  · isplitl [H0]; · iexact H0
    isplitl [HW]; · iexact HW
    isplitl [HtC] <;> iassumption
  isplitl [HtB H3]
  · iapply (signals_first c)
    isplitl [HtB] <;> iassumption
  isplitl [HO]; · iexact HO
  isplitl [HcB HaB]
  · isplitl [HcB] <;> iassumption
  isplitl [HtS HtV HaS]
  · isplitl [HtS]; · iexact HtS
    isplitl [HtV] <;> iassumption
  isplitl [HcV HaV]
  · isplitl [HcV] <;> iassumption
  isplitl [H2]; · iexact H2
  isplitr; · iapply (halves_first m c); iempintro
  isplitl [H1]
  · iexists f1
    isplitr; · ipureintro; intro h; exact absurd h Bool.false_ne_true
    iexact H1
  isplitl [Ho]
  · iexists fo
    isplitr
    · ipureintro
      intro t ht
      unfold Done at ht
      split_ifs at ht with h12
      exact absurd ht (Nat.not_lt_zero _)
    iexact Ho
  isplitl [H312]; · iexact H312
  isplitl [Hs12] <;> iassumption

/-- The state after the last operation gives everything back, the result in its buffer and every semaphore at zero. -/
theorem state_last (K : Dev nD × Fin 41 → ℕ) :
    St m c K 8 8 15 true 16 8 true true 16 16 16
      ⊢ iprop(Owes (F := F) c 15 16 ∗ XPart m c ∗ (((c : Thread nD τ).loc cc0_stg1_0) ↦{fullShare} outFull m c) ∗ (((c : Thread nD τ).loc main_arg1) ↦{fullShare} wAll m c)
        ∗ scratch (F := F) c ∗ bigSep Finset.univ fun k : Fin 41 => semVal (kcell (c, k)) 0) := by
  unfold St
  rw [copies_last, Bar_after, sends_last, recvs_last]
  unfold Raw Out Fixed scratch
  iintro ⟨-, -, HX, ⟨H0, HW, HvC⟩, -, HO, ⟨HvB, -⟩, ⟨Hh, HvS⟩, ⟨H3, HvV⟩, -, HH, ⟨%f1, -, H1⟩, ⟨%fo, %hfo, Ho⟩, H312, HvS12, HvV12⟩
  isplitl [HO]; · iexact HO
  isplitl [HX]; · iexact HX
  isplitl [Ho]
  · have e : fo = outFull m c := funext fun i => by
      obtain ⟨t, ht⟩ := rows_cover c i
      refine hfo t ?_ i ht
      unfold Done
      split_ifs
      · rfl
      · exact t.isLt
    rw [e]; iexact Ho
  isplitl [HW]; · rw [w_leaves]; iexact HW
  isplitl [H0 H1 Hh HH H3 H312]
  · isplitl [H0]; · iapply (b_join m c); iexact H0
    isplitl [H1]; · iexists f1; iexact H1
    isplitl [Hh HH]
    · iapply (y_join m c)
      isplitl [HH]; · iapply (halves_last m c); iexact HH
      iexact Hh
    iapply (r_join m c)
    isplitl [H312] <;> iassumption
  iapply (Entails.of_eq (cells_split (F := F) fun sm => semVal ((c : Thread nD τ), sm) 0).symm)
  isplitl [HvB]; · iexact HvB
  isplitl [HvC]; · iexact HvC
  isplitl [HvS HvS12]
  · iapply (Entails.of_eq (bigSep_univ_at (fun t => (semVal (sendCell c t) 0 : sProp 𝕄)) (12 : Fin 16)).symm)
    isplitl [HvS12] <;> iassumption
  iapply (Entails.of_eq (bigSep_univ_at (fun t => (semVal (recvCell c t) 0 : sProp 𝕄)) (12 : Fin 16)).symm)
  isplitl [HvV12] <;> iassumption

end Ends

end Cert.KernelIdeal.Exchange

end
-- ==== Proof.KernelIdeal.Launch.lean ====
/-
# The launch

@main is the one pipelined region, on every device at one grid point: `x` is staged, the body runs, the result is written
back. This module gives the launch theorem its data: the body's obligation from `body_runs` between the two ends; the
cells allocated under one map of names, every device handed the tokens of the duties it pays; the credit each device
waits with, summed over what all devices owe. `run_main` is the run of the whole mesh, for any float values.
-/
module

public import proofs.«01_k».proof.Proof.KernelIdeal.Body
public import proofs.«01_k».proof.Proof.KernelIdeal.Ends
public import Idealize.ShloMosaic.Lib.Pipeline.CollectiveSegs
public import Idealize.ShloMosaic.Lib.Quiescent
public import Idealize.ShloMosaic.Lib.Pipeline.ValueKit.Geometry

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The region's data -/

/-- What a device's body starts from besides its scratch buffers. -/
def start (c : Dev nD) : sProp 𝕄 :=
  iprop((∃ K, ghost m c K) ∗ credits (F := F) c ∗ levAts L lv ∗ (((c : Thread nD τ).loc main_arg1) ↦{fullShare} wAll m c))
def Φ₀ (c : Dev nD) : sProp 𝕄 := iprop(start m c ∗ scratch (F := F) c)
/-- What it ends with besides the staged buffers. -/
def Φ₁ (c : Dev nD) : sProp 𝕄 :=
  iprop((((c : Thread nD τ).loc main_arg1) ↦{fullShare} wAll m c) ∗ scratch (F := F) c ∗ bigSep Finset.univ fun k : Fin 41 => semVal (kcell (c, k)) 0)

def dats (_ : Fin 1) (c : Dev nD) : Dat τ (Elt F) Unit ℕ UU ℕ cfg0 c where
  A w := m ((cfg0.win w).arr.view.loc (c : Thread nD τ))
  after w _ := match w with
    | ⟨0, _⟩ => xs m c
    | ⟨1, _⟩ => outFull m c
  Φ t := match t with
    | ⟨0, _⟩ => Φ₀ m c
    | ⟨_ + 1, _⟩ => Φ₁ m c
  q _ := fullShare
  owed t := match t with
    | ⟨0, _⟩ => owed c 0 0
    | ⟨_ + 1, _⟩ => 0

/-! ## The body's obligation -/

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer at contents `X`. -/
def held (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, held c cc0_stg0_0 ((dats m 0 c).before (0 : Fin 2) t0_0 d))
    ∗ (∃ d, held c cc0_stg1_0 ((dats m 0 c).before (1 : Fin 2) t0_0 d)))
def bodyPost (c : Dev nD) : sProp 𝕄 :=
  iprop(Φ₁ m c ∗ (dats m 0 c).owesAt () t0_0.succ ∗ held c cc0_stg0_0 (xs m c) ∗ held c cc0_stg1_0 (outFull m c))

theorem body_end (c : Dev nD) (K : Dev nD × Fin 41 → ℕ) : St m c K 8 8 15 true 16 8 true true 16 16 16 ⊢ bodyPost m c := by
  refine (state_last m c K).trans ?_
  unfold bodyPost Φ₁ held XPart Owes Dat.owesAt Pipeline.owesWithin
  iintro ⟨⟨%W, HO⟩, HX, Ho, HW, Hs, Hv⟩
  isplitl [HW Hs Hv]
  · isplitl [HW]; · iexact HW
    isplitl [Hs] <;> iassumption
  isplitl [HO]
  · iexists W
    isplitr; · ipureintro; exact fun _ _ => Or.inl trivial
    rw [show (dats m 0 c).owed t0_0.succ = owed c 15 16 from (owed_done c).symm]
    iexact HO
  isplitl [HX]
  · iexists _; isplitr; · (ipureintro; rfl)
    iexact HX
  iexists _; isplitr; · (ipureintro; rfl)
  iexact Ho

theorem body_starts (c : Dev nD) : bodyPre m c ⊢ |={Set.univ}=> ∃ K, St m c K 0 0 0 false 0 0 false false 0 0 0 := by
  unfold bodyPre Φ₀ start held Dat.owesAt Pipeline.owesWithin
  iintro ⟨⟨⟨⟨%K, Hg⟩, Hc, Hl, HW⟩, Hs⟩, ⟨%W, -, HO⟩, ⟨%d, %f0, %h0, HX⟩, ⟨%d', %f1, -, Ho⟩⟩
  have hx : f0 = xs m c := by
    rw [h0]; unfold Dat.before; rw [if_pos (fetch0_0 t0_0)]; rfl
  imod (state_first m c K) $$ [Hg Hc Hl HW Hs HO HX Ho] with HSt
  · isplitl [Hg]; · iexact Hg
    isplitl [Hc]; · iexact Hc
    isplitl [Hl]; · iexact Hl
    isplitl [HW]; · iexact HW
    isplitl [Hs]; · iexact Hs
    isplitl [HO]
    · unfold Owes; iexists W; iexact HO
    isplitl [HX]
    · unfold XPart; rw [← hx]; iexact HX
    iexists f1; iexact Ho
  imodintro
  iexists K
  iexact HSt

set_option maxRecDepth 20000 in
/-- The body takes what the region gives it to what the region takes back. -/
theorem body_obligation (c : Dev nD) : BodyObligation (dats (F := F) m 0 c) (defs₀ (F := F)) Variants.none () Set.univ := fun t => by
  rw [show t = t0_0 from fin_N0 t]
  rw [show ∀ Φ : Fin cfg0.W → sProp 𝕄, bigSep Finset.univ Φ = iprop(Φ (0 : Fin 2) ∗ Φ (1 : Fin 2)) from bigSep_W0,
    show ∀ Φ : Fin cfg0.W → sProp 𝕄, bigSep Finset.univ Φ = iprop(Φ (0 : Fin 2) ∗ Φ (1 : Fin 2)) from bigSep_W0]
  simp only [owns_whole]
  show bodyPre m c ⊢ WP c (bufs (cc0_body (F := F))) (fun _ => bodyPost m c)
  iintro H
  unfold WP
  imod (body_starts m c) $$ H with ⟨%K, H⟩
  iapply ((body_runs m).trans (wp_mono _ _ _ fun _ => body_end m c K))
  iexact H

/-! ## The cells and tokens at launch -/

/-- The kernel's own semaphores: all cells but the barrier's. -/
abbrev osem (k : Fin 40) : SemLoc sig := csem k.succ
theorem ownSemFacts : Pipeline.OwnSemFacts cfg0.spec osem := by decide +kernel

theorem csem_injective : Function.Injective csem := by decide +kernel
theorem kcell_injective : Function.Injective (kcell : Dev nD × Fin 41 → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- The tokens of one device's cells: a copy's, a signal's, a send's, a receive's. -/
abbrev TokIx : Type := Fin 8 ⊕ Fin 16 ⊕ Fin 16 ⊕ Fin 16
abbrev tokKey : TokIx → SemLoc sig × Fin 16
  | .inl q => (.dma (copyS q), 0)
  | .inr (.inl t) => (.reg barS, t)
  | .inr (.inr (.inl t)) => (.dma (sendS t), 0)
  | .inr (.inr (.inr t)) => (.dma (recvS t), 0)
theorem tokKey_injective : Function.Injective tokKey := by decide +kernel
abbrev tokOf (cx : Dev nD × TokIx) : GSem nD τ sig × ℕ × Fin 16 := (((cx.1 : Thread nD τ), (tokKey cx.2).1), 0, (tokKey cx.2).2)
theorem tokOf_injective : Function.Injective tokOf := by
  rintro ⟨c, x⟩ ⟨c', x'⟩ h
  have h1 : c = c' := congrArg (fun g : GSem nD τ sig × ℕ × Fin 16 => g.1.1.1) h
  have h2 : x = x' := tokKey_injective (congrArg (fun g : GSem nD τ sig × ℕ × Fin 16 => (g.1.2, g.2.2)) h)
  rw [h1, h2]
def allToks : Finset (GSem nD τ sig × ℕ × Fin 16) := Finset.univ.map ⟨tokOf, tokOf_injective⟩

def u₀ : UU :=
  (initOf (Pipeline.cells cfgs cellOf_inj) (Pipeline.launchToks cfgs cellOf_inj), initOf allCells allToks)

/-- The tokens of a device's own cells. -/
def ownToks (c : Dev nD) : sProp 𝕄 :=
  iprop((bigSep Finset.univ fun q : Fin 8 => dutyTok EX (copyCell c q) 0 0) ∗ (bigSep Finset.univ fun t : Fin 16 => dutyTok EX (barCell c) 0 t)
    ∗ (bigSep Finset.univ fun t : Fin 16 => dutyTok EX (sendCell c t) 0 0) ∗ bigSep Finset.univ fun t : Fin 16 => dutyTok EX (recvCell c t) 0 0)

/-- What the launch element deals a device; -/
def G (c : Dev nD) : sProp 𝕄 :=
  iprop((bigSep Finset.univ fun k : Fin 41 => roundState EX (Rd m) (kcell (c, k)) 0)
    ∗ ((bigSep Finset.univ fun k : Fin 41 => atPos EX (kcell (c, k)) 0 ∅ 0) ∗ bigSep Finset.univ fun k : Fin 41 => reached EX (kcell (c, k)) 0) ∗ ownToks (F := F) c)
/-- and what the allocation of all cells makes of it. -/
def G' (c : Dev nD) : sProp 𝕄 := iprop(∃ K, ghost m c K)

theorem fund_all : BI.own (EX (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 41 => Φ (kcell (c, k)) := by
    unfold allCells; rw [bigSep_map, bigSep_univ_prod]; rfl
  have hT : bigSep allToks (fun x => (dutyTok EX x.1 x.2.1 x.2.2 : sProp 𝕄)) = bigSep Finset.univ fun c : Dev nD => ownToks (F := F) c := by
    unfold allToks; rw [bigSep_map, bigSep_univ_prod]
    exact bigSep_congr fun c _ => by unfold ownToks; rw [bigSep_univ_sum, bigSep_univ_sum, bigSep_univ_sum]; rfl
  iintro HX
  imod (Rounds.fund EX (Rd m) allCells allToks) $$ HX with ⟨Hst, Hr, Hat, Htok⟩
  imodintro
  ihave Hst := (Entails.of_eq (hX fun g => roundState EX (Rd m) g 0)) $$ Hst
  ihave Hat := (Entails.of_eq (hX fun g => atPos EX g 0 ∅ 0)) $$ Hat
  ihave Hr := (Entails.of_eq (hX fun g => reached EX g 0)) $$ Hr
  ihave Htok := (Entails.of_eq hT) $$ Htok
  unfold G
  simp only [bigSep_sep']
  isplitl [Hst]; · iexact Hst
  isplitl [Hat Hr]
  · isplitl [Hat] <;> iassumption
  iexact Htok

omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl
omit [FloatOps F] in
/-- All cells of a device are the unscoped one and the kernel's own. -/
theorem sems0_eq (c : Dev nD) :
    (bigSep Finset.univ fun k : Fin 41 => semVal (kcell (c, k)) 0 : sProp 𝕄)
      = iprop(unscopedSems0 c ∗ Pipeline.ownSems0 (Ix := Unit) (Name := ℕ) (U := UU) (Lvl := ℕ) (Val := Elt F) (τ := τ) osem c) := by
  rw [unscopedSems0_eq, Fin.univ_succ, Finset.cons_eq_insert, bigSep_insert (by simp), bigSep_map]
  rfl

/-- Every cell of one device allocated. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv EX (Rd m) κ (kcell (c, k))))
          ∗ ((bigSep Finset.univ fun k : Fin 41 => atPos EX (kcell (c, k)) 0 ∅ 0) ∗ bigSep Finset.univ fun k : Fin 41 => reached EX (kcell (c, k)) 0) ∗ ownToks (F := F) c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Fin 41 => semVal (kcell (c, k)) 0) ∗ bigSep Finset.univ fun k : Fin 41 => roundState EX (Rd m) (kcell (c, k)) 0)
      ⊢ (|={Set.univ}=> bigSep Finset.univ fun k => iprop(∃ κ : ℕ, cellInv EX (Rd m) κ (kcell (c, k))) : sProp 𝕄) from by
        rw [← bigSep_sep']
        exact (bigSep_mono fun k _ => (Rounds.body_intro EX (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### The tokens to those who pay -/

/-- A device and a step, the device taken to the step's source or from its target. -/
def atSrc : Dev nD × Fin 16 ≃ Dev nD × Fin 16 :=
  ⟨fun x => (src x.1 x.2, x.2), fun x => (tgt x.1 x.2, x.2), fun x => Prod.ext (tgt_src x.1 x.2) rfl, fun x => Prod.ext (src_tgt x.1 x.2) rfl⟩

omit [FloatOps F] in
/-- A family over devices and steps, over the sources; -/
theorem over_src (Φ : Dev nD → Fin 16 → sProp 𝕄) :
    (bigSep Finset.univ fun c : Dev nD => bigSep Finset.univ (Φ c)) = bigSep Finset.univ fun c : Dev nD => bigSep Finset.univ fun t => Φ (src c t) t := by
  rw [← bigSep_univ_prod (fun x : Dev nD × Fin 16 => Φ x.1 x.2), bigSep_univ_equiv atSrc]
  exact bigSep_univ_prod (fun x : Dev nD × Fin 16 => Φ (src x.1 x.2) x.2)
omit [FloatOps F] in
/-- over the targets. -/
theorem over_tgt (Φ : Dev nD → Fin 16 → sProp 𝕄) :
    (bigSep Finset.univ fun c : Dev nD => bigSep Finset.univ (Φ c)) = bigSep Finset.univ fun c : Dev nD => bigSep Finset.univ fun t => Φ (tgt c t) t := by
  rw [← bigSep_univ_prod (fun x : Dev nD × Fin 16 => Φ x.1 x.2), bigSep_univ_equiv atSrc.symm]
  exact bigSep_univ_prod (fun x : Dev nD × Fin 16 => Φ (tgt x.1 x.2) x.2)

omit [FloatOps F] in
/-- The tokens dealt: a signal's to the device that gives it, a receive's to the device that sends. -/
theorem toks_around : (bigSep Finset.univ fun c : Dev nD => ownToks (F := F) c) = bigSep Finset.univ fun c : Dev nD => payToks (F := F) c := by
  unfold ownToks payToks
  rw [bigSep_sep', bigSep_sep', bigSep_sep', bigSep_sep', bigSep_sep', bigSep_sep',
    over_src (F := F) (fun c t => dutyTok EX (barCell c) 0 t), over_tgt (F := F) (fun c t => dutyTok EX (recvCell c t) 0 0)]

theorem ghost_intro (K : Dev nD × Fin 41 → ℕ) (c : Dev nD) :
    iprop(Recs m K ∗ (bigSep Finset.univ fun k : Fin 41 => atPos EX (kcell (c, k)) 0 ∅ 0) ∗ payToks (F := F) c) ⊢ G' m c := by
  unfold G' ghost
  iintro H
  iexists K
  iexact H

/-- The names chosen together, every device gets the records, its positions and the tokens it pays with. -/
theorem regroup :
    (bigSep Finset.univ fun c : Dev nD => iprop((bigSep Finset.univ fun k => iprop(∃ κ : ℕ, cellInv EX (Rd m) κ (kcell (c, k))))
          ∗ ((bigSep Finset.univ fun k : Fin 41 => atPos EX (kcell (c, k)) 0 ∅ 0) ∗ bigSep Finset.univ fun k : Fin 41 => reached EX (kcell (c, k)) 0) ∗ ownToks (F := F) c) : sProp 𝕄)
      ⊢ bigSep Finset.univ (G' m) := by
  rw [bigSep_sep', bigSep_sep', bigSep_sep', ← bigSep_univ_prod (fun ck : Dev nD × Fin 41 => iprop(∃ κ : ℕ, cellInv EX (Rd m) κ (kcell ck))),
    ← bigSep_univ_prod (fun ck : Dev nD × Fin 41 => (reached EX (kcell ck) 0 : sProp 𝕄)), toks_around]
  iintro ⟨HI, ⟨Hat, #HR⟩, Htok⟩
  ihave HK := (BI.bigSep_exists_pi Finset.univ (fun (ck : Dev nD × Fin 41) (κ : ℕ) => (cellInv EX (Rd m) κ (kcell ck) : sProp 𝕄))) $$ HI
  icases HK with ⟨%K, #HI⟩
  iapply (bigSep_with_persistent (R := Recs m K) fun c _ => ghost_intro m K c)
  isplitr
  · unfold Recs
    isplitl; · iexact HI
    iexact HR
  · iapply (Entails.of_eq (bigSep_sep' Finset.univ (fun c : Dev nD => bigSep Finset.univ fun k : Fin 41 => (atPos EX (kcell (c, k)) 0 ∅ 0 : sProp 𝕄)) (payToks (F := F))).symm)
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

abbrev O₀ (c : Dev nD) : CellTallies nD τ sig Unit := owed c 0 0

theorem bar_eq_iff {a b : Dev nD} : barCell a = barCell b ↔ a = b :=
  ⟨fun h => congrArg (fun g : GSem nD τ sig => g.1.1) h, fun h => h ▸ rfl⟩
theorem recvS_injective : Function.Injective recvS := by decide +kernel
theorem recv_eq_iff {a b : Dev nD} {t u : Fin 16} : recvCell a t = recvCell b u ↔ a = b ∧ t = u :=
  ⟨fun h => ⟨congrArg (fun g : GSem nD τ sig => g.1.1) h, recvS_injective (SemLoc.dma.inj (congrArg Prod.snd h))⟩, fun h => by rw [h.1, h.2]⟩
theorem recv_ne_bar (a b : Dev nD) (t : Fin 16) : recvCell a t ≠ barCell b := fun h => by cases congrArg Prod.snd h

/-- What device `d` owes a barrier cell: a unit for the step whose source the cell's device is. -/
theorem owed_bar (d c : Dev nD) : O₀ d (barCell c) () = ∑ t : Fin 16, if 0 < rank d t ∧ src d t = c then 1 else 0 := by
  unfold O₀ owed owedBar owedRecv
  rw [Pi.add_apply, Finsupp.add_apply, Finset.sum_apply, Finset.sum_apply, Finsupp.finset_sum_apply, Finsupp.finset_sum_apply,
    Finset.sum_eq_zero (s := Finset.univ) (f := fun t : Fin 16 => (if t ≠ 12 ∧ 0 ≤ t.val then tallyAt (recvCell (tgt d t) t) () NR else 0 : CellTallies nD τ sig Unit) (barCell c) ())
      (fun t _ => by
        split
        · rw [tallyAt_apply, if_neg fun h => recv_ne_bar _ _ _ h.1.symm]
        · rfl), Nat.add_zero]
  refine Finset.sum_congr rfl fun t _ => ?_
  by_cases h : 0 < rank d t
  · rw [if_pos h, tallyAt_apply]
    exact if_congr (by rw [bar_eq_iff]; exact ⟨fun h' => ⟨h, h'.1.symm⟩, fun h' => ⟨h'.2.symm, rfl⟩⟩) rfl rfl
  · rw [if_neg h, if_neg fun h' => h h'.1]; rfl

/-- What device `d` owes a receive cell: a half block if it is its step's source. -/
theorem owed_recv (d c : Dev nD) (t : Fin 16) : O₀ d (recvCell c t) () = (∑ u : Fin 16, if u ≠ 12 ∧ tgt d u = c ∧ u = t then 1 else 0) * NR := by
  unfold O₀ owed owedBar owedRecv
  rw [Pi.add_apply, Finsupp.add_apply, Finset.sum_apply, Finset.sum_apply, Finsupp.finset_sum_apply, Finsupp.finset_sum_apply,
    Finset.sum_eq_zero (s := Finset.univ) (f := fun u : Fin 16 => (if 0 < rank d u then tallyAt (barCell (src d u)) () 1 else 0 : CellTallies nD τ sig Unit) (recvCell c t) ())
      (fun u _ => by
        split
        · rw [tallyAt_apply, if_neg fun h => recv_ne_bar _ _ _ h.1]
        · rfl), Nat.zero_add, Finset.sum_mul]
  refine Finset.sum_congr rfl fun u _ => ?_
  rw [ite_mul, one_mul, zero_mul]
  by_cases h : u ≠ 12
  · rw [if_pos ⟨h, Nat.zero_le _⟩, tallyAt_apply]
    exact if_congr (by rw [recv_eq_iff]; exact ⟨fun h' => ⟨h, h'.1.1.symm, h'.1.2.symm⟩, fun h' => ⟨⟨h'.2.1.symm, h'.2.2.symm⟩, rfl⟩⟩) rfl rfl
  · rw [if_neg fun h' => h h'.1, if_neg fun h' => h h'.1]; rfl

theorem signals_count : ∀ c : Dev nD, (∑ d : Dev nD, ∑ t : Fin 16, if 0 < rank d t ∧ src d t = c then 1 else 0) = 15 := by decide +kernel
theorem receives_count : ∀ (c : Dev nD) (t : Fin 16), t ≠ 12 → (∑ d : Dev nD, ∑ u : Fin 16, if u ≠ 12 ∧ tgt d u = c ∧ u = t then 1 else 0) = 1 := by decide +kernel

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, signals_count]
theorem launch_recv (c : Dev nD) (t : Fin 16) (ht : t ≠ 12) :
    tallyOn (recvCell c t) (launchCredit (Pipeline.owing O₀) 0 (recvCell c t)) = (tallyAt (recvCell c t) () NR : CellTallies nD τ sig Unit) := by
  unfold tallyAt; refine congrArg _ (Finsupp.ext fun u => ?_); cases u
  rw [Pipeline.launchCredit_owing, Finsupp.single_eq_same, Finset.sum_congr rfl fun d _ => owed_recv d c t, ← Finset.sum_mul, receives_count c t ht, one_mul]

omit [FloatOps F] in
/-- The launch's credit is what the device waits with. -/
theorem creds (c : Dev nD) : (Pipeline.launchCred O₀ c : sProp 𝕄) ⊢ credits (F := F) c := by
  unfold Pipeline.launchCred credits
  rw [bigSep_univ_at _ (SemLoc.reg barS), launch_bar]
  refine sep_mono_right ?_
  refine (bigSep_subset (t := (Finset.univ.erase (12 : Fin 16)).image fun t => SemLoc.dma (recvS t)) fun sm h => ?_).trans ?_
  · obtain ⟨t, -, rfl⟩ := Finset.mem_image.mp h
    exact Finset.mem_erase.mpr ⟨by decide +revert, Finset.mem_univ _⟩
  · rw [bigSep_image_of_injOn fun t _ u _ h => recvS_injective (SemLoc.dma.inj h)]
    exact Entails.of_eq (bigSep_congr fun t ht => congrArg cred (launch_recv c t (Finset.ne_of_mem_erase ht)))

/-! ## The run -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨HW, Hlev, Hcr, -, HG⟩
  ihave Hc := (creds (F := F) c) $$ Hcr
  imodintro
  unfold start G'
  isplitl
  · isplitl [HG]; · iexact HG
    isplitl [Hc]; · iexact Hc
    isplitl [Hlev]; · iexact Hlev
    iexact HW
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs] <;> iassumption

/-- What a device has left for the reading of its final memory: the barrier semaphore and `W`. -/
def left (c : Dev nD) : sProp 𝕄 := iprop(unscopedSems0 c ∗ (((c : Thread nD τ).loc main_arg1) ↦{fullShare} wAll m c))

theorem phi1_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = Φ₁ m c from rfl, scopedRest0_eq]
  unfold Φ₁ scratch left
  rw [sems0_eq]
  iintro ⟨HW, Hr, Hu, Ho⟩
  isplitl [HW Hu]
  · isplitl [Hu] <;> iassumption
  isplitl [Ho] <;> iassumption

/-- The staging cells are waited for below everything a device owes. -/
theorem waits (c : Dev nD) : (levAts L lv : sProp 𝕄) ⊢ Pipeline.cellsWaits cfgs (dats m) () 0 c :=
  Pipeline.cellsWaits_intro cfgs (dats m) () 0 c fun w s t => by
    have hlv : ∀ (w : Fin 2) (s : Fin (spec0 w).nbuf), lv ((c : Thread nD τ), .dma ((spec0 w).sem s)) () ≤ 0 := by
      intro w s
      fin_cases w <;> fin_cases s <;> exact Nat.le_refl 0
    rcases t with ⟨_ | _, ht⟩
    · exact mayWait_below c _ 0 (hlv w s) 0 0 (Or.inl Nat.one_pos) (by decide)
    · show (levAts L lv : sProp 𝕄) ⊢ MayWait (c : Thread nD τ) _ () 0
      rw [MayWait_zero]; iintro -; iempintro

/-- What is read of a device's final memory besides the staged arrays. -/
def Kept (c : Dev nD) (s : MemSt nD τ sig (Elt F)) : Prop :=
  s.mem ((c : Thread nD τ).loc main_arg1) = m ((c : Thread nD τ).loc main_arg1)
    ∧ ∀ sm : SemLoc sig, sm.isScoped .tc = false → s.sem ((c.tc : Thread nD τ), sm) = 0

theorem kept_read (c : Dev nD) (s' : Phys nD τ sig (Elt F)) : iprop(left m c ∗ emp ∗ SI s') ⊢ |={Set.univ}=> iprop(⌜Kept m c s'.mem⌝ ∗ SI s') := by
  unfold left
  iintro ⟨⟨Hu, HW⟩, -, HSI⟩
  ihave %hW := (SI_pointsTo_agree (st := s') (ℓ := (c : Thread nD τ).loc main_arg1) (I := Finset.univ) (q := fullShare) (f := wAll m c)) $$ [HSI HW]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro
    exact ⟨funext fun i => hW i (Finset.mem_univ i), hs⟩
  iexact HSI

/-- What every run ends with: each device's arrays as the region leaves them, `W` as it was. -/
def Ends (r : PUnit × MemSt nD τ sig (Elt F)) : Prop :=
  ∀ c : Dev nD, (∀ w : Fin cfg0.W, r.2.mem ((cfg0.win w).arr.view.loc (c : Thread nD τ)) = (dats m 0 c).arrAt w cfg0.N)
    ∧ r.2.mem ((c : Thread nD τ).loc main_arg1) = m ((c : Thread nD τ).loc main_arg1)

set_option maxRecDepth 8000 in
/-- On the mesh of sixteen devices, for any float values and from any memory with every semaphore at zero, every weakly
    fair execution of @main terminates, with the arrays of `Ends` and every semaphore at zero again. -/
theorem run_main : θ_run defs (onTc (τ := τ) (main (F := F))) ⟨m, fun _ => 0, ρ⟩ (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ Variants.none m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := phi0_intro m) (hout := phi1_exit m)
    (QY := Kept m) (hY := kept_read m)
    (hQ := fun _ h hs => ⟨fun c => ⟨fun w => (h c).1 w, (h c).2.2.1⟩, sem_eq_zero hs fun c => (h c).2.2.2⟩)

/-- The one write-back is of the whole array. -/
theorem result_whole : (cfg0.win (1 : Fin 2)).WholeAt t0_0 := by decide +kernel
theorem result_eq (c : Dev nD) : (dats m 0 c).arrAt (1 : Fin 2) cfg0.N = outFull m c :=
  (dats m 0 c).arrAt_eq_of_after_last (1 : Fin 2) t0_0 result_whole (outFull m c) (fun _ => rfl)

/-- The run, read at the arguments and the result: the arguments as they were, the result `outFull`, every semaphore at zero. -/
theorem run : θ_run defs (onTc (τ := τ) (main (F := F))) ⟨m, fun _ => 0, ρ⟩ (fun r => (∀ c : Dev nD,
      r.2.mem ((c.tc : Thread nD τ).loc main_v1) = outFull m c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => ⟨((h.1 c).1 1).trans (result_eq m c),
    ((h.1 c).1 0).trans ((dats (F := F) m 0 c).arrAt_in (0 : Fin 2) rfl _), (h.1 c).2⟩, h.2⟩) (run_main m ρ)

end Cert.KernelIdeal.Exchange

end
-- ==== Proof.Silu.lean ====
/-
# The activation, in extended reals

The kernel multiplies a product `y` by its logistic; the reference divides `y` by one plus the exponential of minus `y`
cut to between -60 and 60. This module states both as functions of one extended real, reads the three constants of the
printed programs, and shows that the two agree wherever `|y| ≤ 60`.
-/
module

public import Idealize.ShloMosaic.PureOps.Ideal
public import Idealize.ShloMosaic.Lib.IdealHost

@[expose] public section

noncomputable section

namespace Cert.Silu

open Idealize.ShloMosaic

/-- The activation as the reference spells it. -/
def clipped (y : EReal) : EReal := Ideal.div y (1 + Ideal.exp (-(min 60 (max (-60) y))))

/-- The activation as the kernel spells it. -/
def gated (y : EReal) : EReal := y * Ideal.logistic y

/-- The bit pattern of the upper bound is sixty. -/
theorem bits_sixty : Ideal.ofBits .f32 0x42700000#32 = 60 := by
  rw [show (60 : EReal) = ((60 : ℝ) : EReal) by norm_cast]
  simp [Ideal.ofBits, Ideal.ieee, -EReal.coe_mul]; norm_num

/-- The bit pattern of the lower bound is minus sixty. -/
theorem bits_minus_sixty : Ideal.ofBits .f32 0xC2700000#32 = -60 := by
  rw [show (-60 : EReal) = ((-60 : ℝ) : EReal) from (EReal.coe_neg 60).symm]
  simp [Ideal.ofBits, Ideal.ieee, -EReal.coe_mul, -EReal.coe_neg]; norm_num

/-- The exponential is nowhere negative. -/
theorem exp_nonneg (y : EReal) : 0 ≤ Ideal.exp y := by
  induction y with
  | bot => exact le_refl _
  | top => exact le_top
  | coe r => exact EReal.coe_nonneg.mpr (Real.exp_pos r).le

/-- The denominator is not zero. -/
theorem denominator_ne_zero (y : EReal) : 1 + Ideal.exp y ≠ 0 := by
  have h : (1 : EReal) + 0 ≤ 1 + Ideal.exp y := add_le_add le_rfl (exp_nonneg y)
  rw [add_zero] at h
  exact (lt_of_lt_of_le zero_lt_one h).ne'

/-- Where `|y| ≤ 60` the cut changes nothing, and the two spellings agree. -/
theorem gated_eq_clipped {y : EReal} (h : max y (-y) ≤ 60) : gated y = clipped y := by
  have h1 : y ≤ 60 := (le_max_left _ _).trans h
  have h2 : -60 ≤ y := EReal.neg_le.mp ((le_max_right _ _).trans h)
  have hd := denominator_ne_zero (-y)
  unfold gated clipped Ideal.logistic
  rw [max_eq_right h2, min_eq_right h1]
  unfold Ideal.div
  rw [if_neg hd, if_neg hd, one_mul]

end Cert.Silu

end
-- ==== Proof.Value.lean ====
/-
# The result, in extended reals

Every product here is a row of a device's `x` against a column of `W` (`dot`). The reference's result at row `r` and
column `n` is the activation of that dot; the kernel's result on device `c` at row `256·d + s` and column `l` is the
activation, in the kernel's spelling, of row `s` of device `d` against column `128·c + l` of `W`. The precondition, read
on device `d`, bounds that dot by 60, where the two spellings agree. So device `c` ends with block `c` of 128 columns of
the reference's result (`outFull_eq`).
-/
module

public import proofs.«01_k».proof.Proof.Silu
public import proofs.«01_k».proof.Proof.KernelIdeal.Contents
public import proofs.«01_k».proof.Proof.Gen.ReferenceIdeal.Read
public import proofs.«01_k».proof.Proof.Gen.Pre_bounded_KernelIdeal
public import Idealize.ShloMosaic.Lib.Layout
public import Idealize.ShloMosaic.Lib.MatmulPlain
public import Idealize.ShloMosaic.Lib.ReduceAll
public import Idealize.ShloMosaic.Lib.Pointwise.Select

@[expose] public section

noncomputable section

namespace Cert.Value

open Idealize.ShloMosaic hiding ix2 ix3 piece
open Idealize.ShloMosaic.ValueIdx Idealize.ShloMosaic.TcCoe Cert.Silu
open scoped BigOperators

/-- Row `r` of `X` against column `n` of `W`. -/
def dot {M K N : ℕ} (X : (⟨2, ![M, K]⟩ : Shape).Idx → EReal) (W : (⟨2, ![K, N]⟩ : Shape).Idx → EReal) (r : Fin M) (n : Fin N) : EReal :=
  ∑ k : Fin K, X (ix2 r k) * W (ix2 k n)

/-- The host's product of two matrices, at an index. -/
theorem host_dot {M K N : ℕ} (prec : Option ContractPrecision) (sched : HostSchedule) (X : FVec Ideal ⟨2, ![M, K]⟩ .f32)
    (W : FVec Ideal ⟨2, ![K, N]⟩ .f32) (r : Fin M) (n : Fin N) :
    FloatOps.dotGeneral (DotDims.plain M K N) prec sched X W (ix2 r n) = dot X W r n := by
  have e := Ideal.matmul_plain_apply prec X W (fun _ => (0 : EReal)) r n
  rw [Ideal.matmul_apply, zero_add, zero_add] at e
  rw [Ideal.dotGeneral_apply]
  exact e

/-! ## The reference -/

section Reference

open Cert.ReferenceIdeal Cert.ReferenceIdeal.Gen Cert.ReferenceIdeal.Read

/-- The reference's result at an index. -/
theorem reference_at (X : FVec Ideal S4096x4096 .f32) (W : FVec Ideal S4096x2048 .f32) (i : S4096x2048.Idx) :
    val_main_v6 (F := Ideal) X W i = clipped (dot X W (i 0) (i 1)) := by
  have hd : val_main_v0 (F := Ideal) X W i = dot X W (i 0) (i 1) := by
    rw [val_main_v0_apply]
    refine Finset.sum_congr rfl fun k _ => congrArg₂ (· * ·) (congrArg X (funext fun a => ?_)) (congrArg W (funext fun a => ?_))
    · match a with
      | ⟨0, _⟩ => rfl
      | ⟨1, _⟩ => rfl
    · match a with
      | ⟨0, _⟩ => rfl
      | ⟨1, _⟩ => rfl
  rw [val_main_v6_apply, val_main_v5_apply, val_main_v4_apply, val_main_cst_1_apply, val_main_v3_apply, val_main_v2_apply,
    val_main_v1_apply, val_main_call0_v4_apply, val_main_call0_v3_apply, val_main_cst_0_apply, val_main_call0_v2_apply,
    val_main_call0_v1_apply, val_main_call0_v0_apply, val_main_cst_apply, hd]
  simp only [Ideal.ofBits_def, bits_sixty, bits_minus_sixty, Ideal.ofBits_one_f32, Ideal.addf_def, Ideal.maximumf_def, Ideal.minimumf_def,
    Ideal.hostDivf_def, Ideal.hostUnary_exp_def, Ideal.hostNegf_def, Ideal.negf_def]
  rfl

end Reference

/-! ## The precondition -/

section Bound

open Cert.Pre_bounded_KernelIdeal Cert.Pre_bounded_KernelIdeal.Gen

/-- The precondition, read back: every dot of the device's rows is at most 60 in absolute value. -/
theorem bounded_at (X : FVec Ideal S256x4096 .f32) (W : FVec Ideal S4096x2048 .f32) (h : fn (F := Ideal) X W = fun _ => 1#1)
    (r : Fin 256) (n : Fin 2048) : max (dot X W r n) (-(dot X W r n)) ≤ 60 := by
  haveI : Subsingleton S_.Idx := ⟨fun a b => funext fun k => k.elim0⟩
  have h0 := congrFun h (fun k : Fin 0 => k.elim0)
  unfold fn at h0
  have e := Host.reduce_andi_all _ _ _ _ _ h0 (ix2 r n)
  have e' : Ideal.cmp .ole (max (dot X W r n) (-(dot X W r n))) (Ideal.ofBits .f32 0x42700000#32) = 1 := by
    rw [← host_dot none .single X W r n]
    exact e
  rw [bits_sixty] at e'
  exact (Ideal.cmp_ole_eq_one _ _).mp e'

end Bound

/-! ## The kernel -/

section Kernel

open Cert.KernelIdeal Cert.KernelIdeal.Gen Cert.KernelIdeal.Exchange

variable (m : (ℓ : Loc nD τ sig) → Buf (Elt Ideal) ℓ)

/-- Device `c`'s rows of `x`, and its `W`. -/
abbrev X (c : Dev nD) : FVec Ideal S256x4096 .f32 := m ((c : Thread nD τ).loc main_arg0)
abbrev W (c : Dev nD) : FVec Ideal S4096x2048 .f32 := m ((c : Thread nD τ).loc main_arg1)

/-- The staged block of `x` is block zero. -/
theorem x_index : ∀ a, win0_0.index (0 : Fin 1) a = 0 := by decide +kernel

/-- The staged rows are the device's rows. -/
theorem xs_eq (c : Dev nD) : k0_pay2 (xs m c) = X m c := by
  funext i
  unfold k0_pay2
  rw [shapeCast_self]
  refine congrArg (X m c) (funext fun a => ?_)
  match a with
  | ⟨0, _⟩ => exact Fin.ext (win0_0.rect_emb_val_of_index_zero _ _ (x_index 0) i)
  | ⟨1, _⟩ => exact Fin.ext (win0_0.rect_emb_val_of_index_zero _ _ (x_index 1) i)

theorem col_lt (c : Dev nD) (q : Fin 8) (n : Fin 256) : wcol c q + n.val < 2048 := by
  have := wcol_le c q; omega

/-- The product of device `c`'s rows with column block `q`, at an index. -/
theorem block_product (c : Dev nD) (q : Fin 8) (r n : Fin 256) :
    matmul (φ₂ := .f32) dot_S256x4096_S4096x256_S256x256_1_0_0_1_n_n none (X m c) (shapeCast S4096x256 (wBlk m c q : FVec Ideal S1x4096x256 .f32) shapeCasts_S1x4096x256_S4096x256)
      (constant S256x256 .f32 0x00000000#32) (ix2 r n) = dot (X m c) (W m c) r ⟨wcol c q + n.val, col_lt c q n⟩ := by
  refine (Ideal.matmul_plain_apply (M := 256) (K := 4096) (N := 256) none (X m c)
    (shapeCast S4096x256 (wBlk m c q) shapeCasts_S1x4096x256_S4096x256) (constant S256x256 .f32 0x00000000#32) r n).trans ?_
  rw [show (constant (F := Ideal) S256x256 .f32 0x00000000#32) (ix2 r n) = (0 : EReal) from Ideal.ofBits_zero_f32, zero_add]
  refine Finset.sum_congr rfl fun k _ => congrArg (X m c (ix2 r k) * ·) ?_
  refine (shapeCast_dropUnit_apply ![4096, 256] (wBlk m c q) shapeCasts_S1x4096x256_S4096x256 (ix2 k n)).trans ?_
  exact wBlk_of m c q _ _ rfl rfl

/-- A rounded column block, at an index. -/
theorem yBlk_at (c : Dev nD) (q : Fin 8) (r n : Fin 256) :
    yBlk m c q (ix3 (n0 := 1) (n1 := 256) (n2 := 256) 0 r n) = gated (dot (X m c) (W m c) r ⟨wcol c q + n.val, col_lt c q n⟩) := by
  unfold yBlk k0_pay4
  rw [xs_eq]
  refine (shapeCast_addUnit_apply ![256, 256] _ shapeCasts_S256x256_S1x256x256 _).trans ?_
  rw [← block_product m c q r n]
  have e : (fun a : Fin 2 => (ix3 (n0 := 1) (n1 := 256) (n2 := 256) 0 r n) a.succ) = ix2 r n := by
    funext a
    match a with
    | ⟨0, _⟩ => rfl
    | ⟨1, _⟩ => rfl
  rw [← e]
  rfl

/-- The column block kept unrounded, at an index. -/
theorem yOwn_at (c : Dev nD) (r n : Fin 256) :
    yOwn m c (ix2 (n0 := 256) (n1 := 256) r n) = gated (dot (X m c) (W m c) r ⟨wcol c 6 + n.val, col_lt c 6 n⟩) := by
  unfold yOwn k0_pay12
  rw [shapeCast_self, xs_eq, ← block_product m c 6 r n]
  rfl

theorem own_col_lt (c : Dev nD) (l : Fin 128) : 128 * c.val + l.val < 2048 := by
  have : c.val < 16 := c.isLt
  omega

/-- The rows that come to device `c` at step `t`, at an index: rows of the step's source against `c`'s own columns. -/
theorem piece_at (c : Dev nD) (t : Fin 16) (s : Fin 256) (l : Fin 128) :
    piece m c t (ix2 s l) = gated (dot (X m (src c t)) (W m (src c t)) s ⟨128 * c.val + l.val, own_col_lt c l⟩) := by
  have hc := wcol_src c t
  have hh := half_lt (src c t) t
  by_cases h : t = 12
  · subst h
    rw [src_own] at hc hh ⊢
    unfold piece
    rw [if_pos rfl]
    refine (yOwn_at m c s ⟨128 * half c 12 + l.val, by omega⟩).trans (congrArg (fun n => gated (dot (X m c) (W m c) s n)) (Fin.ext ?_))
    have hc' : wcol c 6 + 128 * half c 12 = 128 * c.val := hc
    show wcol c 6 + (128 * half c 12 + l.val) = 128 * c.val + l.val
    omega
  · unfold piece
    rw [if_neg h]
    unfold k0_pay1
    refine (shapeCast_dropUnit_apply ![256, 128] (yPart m (src c t) t) shapeCasts_S1x256x128_S256x128 (ix2 s l)).trans ?_
    refine (yPart_of m (src c t) t _ (ix3 (n0 := 1) (n1 := 256) (n2 := 256) 0 s ⟨128 * half (src c t) t + l.val, by omega⟩) rfl rfl).trans ?_
    refine (yBlk_at m (src c t) (blk t) s _).trans (congrArg (fun n => gated (dot (X m (src c t)) (W m (src c t)) s n)) (Fin.ext ?_))
    show wcol (src c t) (blk t) + (128 * half (src c t) t + l.val) = 128 * c.val + l.val
    omega

/-- The kernel's result, at an index. -/
theorem outFull_at (c : Dev nD) (i : S4096x128.Idx) :
    outFull m c i = gated (dot (X m (rowDev i)) (W m (rowDev i)) ⟨(i 0).val % 256, Nat.mod_lt _ (by decide)⟩
      ⟨128 * c.val + (i 1).val, own_col_lt c (i 1)⟩) := by
  unfold outFull
  refine (piece_at m c (via c (rowDev i)) _ (i 1)).trans ?_
  rw [src_via]

/-- Under the precondition on every device, with every device's rows the block of the whole `x` and its `W` the whole
    `W`, device `c` ends with its block of columns of the reference's result. -/
theorem outFull_eq (x : FVec Ideal ⟨2, ![4096, 4096]⟩ .f32) (w : FVec Ideal ⟨2, ![4096, 2048]⟩ .f32)
    (hx : ∀ c : Dev nD, X m c = Layout.block ⟨2, ![256, 4096]⟩ ⟨2, ![4096, 4096]⟩ 0 16 c x) (hw : ∀ c : Dev nD, W m c = w)
    (hb : ∀ c : Dev nD, Cert.Pre_bounded_KernelIdeal.fn (F := Ideal) (X m c) (W m c) = fun _ => 1#1) (c : Dev nD) :
    outFull m c = Layout.block ⟨2, ![4096, 128]⟩ ⟨2, ![4096, 2048]⟩ 1 16 c (Cert.ReferenceIdeal.Read.val_main_v6 (F := Ideal) x w) := by
  funext i
  rw [outFull_at, gated_eq_clipped (bounded_at _ _ (hb (rowDev i)) _ _), Layout.block_apply, reference_at]
  refine congrArg clipped (Finset.sum_congr rfl fun k _ => ?_)
  rw [hw, hx, Layout.block_apply]
  refine congrArg₂ (· * ·) (congrArg x (funext fun a => ?_)) (congrArg w (funext fun a => ?_))
  · match a with
    | ⟨0, _⟩ => exact Fin.ext (show (i 0).val / 256 * 256 + (i 0).val % 256 = (i 0).val by omega)
    | ⟨1, _⟩ => rfl
  · match a with
    | ⟨0, _⟩ => rfl
    | ⟨1, _⟩ => exact Fin.ext (show 128 * c.val + (i 1).val = c.val * 128 + (i 1).val by omega)

end Kernel

end Cert.Value

end
-- ==== Proof.lean ====
/-
# The claims

The five claims about the exchange of column blocks over sixteen devices, assembled. Both frames of the kernel are its
run (`Exchange.run`, for any float values) with the result dropped; the frame of the reference is the run of its host
operations, which name no semaphore. The two programs of `preserves` are one text. The value claim takes for the whole
result the reference's, and reads the kernel's run at it by `Value.outFull_eq`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_bounded_KernelIdeal
public import proofs.«01_k».proof.Proof.Gen.Pre_bounded_ReferenceIdeal
public import proofs.«01_k».proof.Proof.Gen.ReferenceIdeal.Read
public import proofs.«01_k».proof.Proof.KernelIdeal.Launch
public import proofs.«01_k».proof.Proof.Value
public import proofs.«01_k».proof.Proof.Kernel.Launch
public import Idealize.ShloMosaic.Adequacy
public import Idealize.ShloMosaic.Init

@[expose] public section

noncomputable section

namespace Cert.Proof

open Idealize.ShloMosaic Idealize.SL.Sem

/-- The reference's run: its arguments end as they were, and it has no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run _ _ _).mono (fun r h => ⟨fun c => (h c).2, funext fun s => by
    obtain ⟨_, s⟩ := s
    cases s <;> exact Fin.elim0 (by assumption)⟩) (Cert.ReferenceIdeal.Value.run m g)

theorem claim : Cert.Claim := ⟨Cert.Kernel.Gen.facts, Cert.KernelIdeal.Gen.facts, Cert.ReferenceIdeal.Gen.facts,
  Cert.Pre_bounded_KernelIdeal.Gen.facts, Cert.Pre_bounded_ReferenceIdeal.Gen.facts,
  fun m g _ => (θ_run _ _ _).mono (fun _ h => ⟨fun c => (h.1 c).2, h.2⟩) (Cert.Kernel.Exchange.run m g),
  fun m g _ => (θ_run _ _ _).mono (fun _ h => ⟨fun c => (h.1 c).2, h.2⟩) (Cert.KernelIdeal.Exchange.run m g),
  fun m g _ => (θ_run _ _ _).mono (fun _ h => ⟨fun c => (h.1 c).2, h.2⟩) (Cert.KernelIdeal.Exchange.run m g),
  fun m g _ => reference_frame m g,
  fun m g _ => reference_frame m g,
  trivial,
  fun m g m' g' hp hm => ⟨Cert.ReferenceIdeal.Read.val_main_v6 (F := Ideal) _ _,
    (θ_run _ _ _).mono (fun _ h c => ⟨((h.1 c).1).trans
      (Cert.Value.outFull_eq m _ _ (fun c => (hm c).1) (fun c => (hm c).2) hp c), (h.1 c).2⟩) (Cert.KernelIdeal.Exchange.run m g),
    (θ_run _ _ _).mono (fun _ h => ⟨(h 0).1.trans (Cert.ReferenceIdeal.Read.val_main_v6_eq _ _), (h 0).2⟩)
      (Cert.ReferenceIdeal.Value.run m' g')⟩⟩

end Cert.Proof

end
